-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dy_finite [hPre_dy_finite : Cert.Pre_dy_finite.Facts] (m : (ℓ : Loc Cert.KernelIdeal.nD Cert.KernelIdeal.τ Cert.KernelIdeal.sig) → Buf (Elt Ideal) ℓ) : Prop :=
  ∀ c : Dev Cert.KernelIdeal.nD,
    (Cert.Pre_dy_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dy_finite [hPre_dy_finite : Cert.Pre_dy_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dy_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_dy_finite [hKernelIdeal : Cert.KernelIdeal.Facts] [hPre_dy_finite : Cert.Pre_dy_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dy_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_dy_finite [hReferenceIdeal : Cert.ReferenceIdeal.Facts] [hPre_dy_finite : Cert.Pre_dy_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dy_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.Statement Cert.KernelIdeal.S128x1024 Cert.KernelIdeal.S64x1024
  ∧ IdealRules.bf16_pack.Statement Cert.KernelIdeal.S64x1024

def algebraic_KernelIdeal_ReferenceIdeal_pre_dy_finite [hKernelIdeal : Cert.KernelIdeal.Facts] [hReferenceIdeal : Cert.ReferenceIdeal.Facts] [hPre_dy_finite : Cert.Pre_dy_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dy_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v13)) (v5 : (c : Dev Cert.KernelIdeal.nD) → Buf (Elt Ideal) ((c.tc : Thread Cert.KernelIdeal.nD Cert.KernelIdeal.τ).loc Cert.KernelIdeal.main_v14)) (v6 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_v14) = v5 c
          ∧ r.2.mem ((c.tc : Thread Cert.KernelIdeal.nD Cert.KernelIdeal.τ).loc Cert.KernelIdeal.main_v15) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v87) = v4 c
          ∧ r.2.mem ((c.tc : Thread Cert.ReferenceIdeal.nD Cert.ReferenceIdeal.τ).loc Cert.ReferenceIdeal.main_v88) = v5 c
          ∧ r.2.mem ((c.tc : Thread Cert.ReferenceIdeal.nD Cert.ReferenceIdeal.τ).loc Cert.ReferenceIdeal.main_v89) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_dy_finite : Cert.Pre_dy_finite.Facts),
    quiescent_Kernel (hKernel := hKernel)
    ∧ quiescent_KernelIdeal (hKernelIdeal := hKernelIdeal)
    ∧ quiescent_KernelIdeal_pre_dy_finite (hKernelIdeal := hKernelIdeal) (hPre_dy_finite := hPre_dy_finite)
    ∧ quiescent_ReferenceIdeal (hReferenceIdeal := hReferenceIdeal)
    ∧ quiescent_ReferenceIdeal_pre_dy_finite (hReferenceIdeal := hReferenceIdeal) (hPre_dy_finite := hPre_dy_finite)
    ∧ preserves_Kernel_KernelIdeal
    ∧ algebraic_KernelIdeal_ReferenceIdeal_pre_dy_finite (hKernelIdeal := hKernelIdeal) (hReferenceIdeal := hReferenceIdeal) (hPre_dy_finite := hPre_dy_finite)
-- ==== Pre_dy_finite.lean ====
abbrev S24x768x2304 : Shape := ⟨3, ![24, 768, 2304]⟩
abbrev S24x768x9216 : Shape := ⟨3, ![24, 768, 9216]⟩
abbrev S1152x9216 : Shape := ⟨2, ![1152, 9216]⟩
abbrev S18x9216 : Shape := ⟨2, ![18, 9216]⟩
abbrev S2304x8 : Shape := ⟨2, ![2304, 8]⟩
abbrev S8x9216 : Shape := ⟨2, ![8, 9216]⟩
abbrev S_ : Shape := ⟨0, ![]⟩

class Facts : Prop where
  bcast_S_S24x768x9216 : S_.BroadcastsInDim S24x768x9216 (![] : Fin 0 → Fin S24x768x9216.rank)

variable [Facts]

def fn {F : FTy → Type} [FloatOps F] (main_arg0 : FVec F S24x768x2304 .bf16) (main_arg1 : FVec F S24x768x9216 .bf16) (main_arg2 : IVec S1152x9216 8) (main_arg3 : FVec F S18x9216 .bf16) (main_arg4 : FVec F S2304x8 .bf16) (main_arg5 : FVec F S8x9216 .bf16) : IVec S24x768x9216 1 :=
  let main_v0 : FVec F S24x768x9216 .bf16 := Host.absf main_arg1
  let main_cst : FVec F S_ .bf16 := constant S_ .bf16 0x7F7F#16
  let main_v1 : FVec F S24x768x9216 .bf16 := broadcastInDim S24x768x9216 ![] bcast_S_S24x768x9216 main_cst
  let main_v2 : IVec S24x768x9216 1 := cmpf .ole main_v0 main_v1
  main_v2
-- ==== Kernel.lean ====
abbrev S24x768x2304 : Shape := ⟨3, ![24, 768, 2304]⟩
abbrev S24x768x9216 : Shape := ⟨3, ![24, 768, 9216]⟩
abbrev S1152x9216 : Shape := ⟨2, ![1152, 9216]⟩
abbrev S18x9216 : Shape := ⟨2, ![18, 9216]⟩
abbrev S2304x8 : Shape := ⟨2, ![2304, 8]⟩
abbrev S8x9216 : Shape := ⟨2, ![8, 9216]⟩
abbrev S18x1x9216 : Shape := ⟨3, ![18, 1, 9216]⟩
abbrev S9216x2304 : Shape := ⟨2, ![9216, 2304]⟩
abbrev S64x1024 : Shape := ⟨2, ![64, 1024]⟩
abbrev S1x1x1024 : Shape := ⟨3, ![1, 1, 1024]⟩
abbrev S1024x128 : Shape := ⟨2, ![1024, 128]⟩
abbrev S1x1024 : Shape := ⟨2, ![1, 1024]⟩
abbrev S128x1024 : Shape := ⟨2, ![128, 1024]⟩
abbrev S8x2304 : Shape := ⟨2, ![8, 2304]⟩
abbrev S_ : Shape := ⟨0, ![]⟩
abbrev S16x2304 : Shape := ⟨2, ![16, 2304]⟩
abbrev S16x9216 : Shape := ⟨2, ![16, 9216]⟩
abbrev S18432x2304 : Shape := ⟨2, ![18432, 2304]⟩
abbrev S18432x9216 : Shape := ⟨2, ![18432, 9216]⟩
abbrev S18432x8 : Shape := ⟨2, ![18432, 8]⟩
abbrev S72x1x256 : Shape := ⟨3, ![72, 1, 256]⟩
abbrev S256x2304 : Shape := ⟨2, ![256, 2304]⟩
abbrev S256x9216 : Shape := ⟨2, ![256, 9216]⟩
abbrev S256x8 : Shape := ⟨2, ![256, 8]⟩
abbrev S1x1x256 : Shape := ⟨3, ![1, 1, 256]⟩
abbrev S256x128 : Shape := ⟨2, ![256, 128]⟩
abbrev S32x9216 : Shape := ⟨2, ![32, 9216]⟩
abbrev S32x128 : Shape := ⟨2, ![32, 128]⟩
abbrev S32 : Shape := ⟨1, ![32]⟩
abbrev S32x1 : Shape := ⟨2, ![32, 1]⟩
abbrev S128x256 : Shape := ⟨2, ![128, 256]⟩
abbrev S1x256 : Shape := ⟨2, ![1, 256]⟩
abbrev S16x256 : Shape := ⟨2, ![16, 256]⟩
abbrev S256x16 : Shape := ⟨2, ![256, 16]⟩
abbrev S9216x256 : Shape := ⟨2, ![9216, 256]⟩
abbrev S256x256 : Shape := ⟨2, ![256, 256]⟩
abbrev S24x768x8 : Shape := ⟨3, ![24, 768, 8]⟩
abbrev S24x768 : Shape := ⟨2, ![24, 768]⟩

abbrev nBuf : Space → Nat
  | .hbm => 32
  | .vmem => 26
  | .smem => 0
  | _ => 0

abbrev bufTy : (tb : Table) → Fin (tcTables nBuf tb) → BufTy
  | .hbm, ⟨0, _⟩ => ⟨S24x768x2304, .bf16⟩
  | .hbm, ⟨1, _⟩ => ⟨S24x768x9216, .bf16⟩
  | .hbm, ⟨2, _⟩ => ⟨S1152x9216, .i8⟩
  | .hbm, ⟨3, _⟩ => ⟨S18x9216, .bf16⟩
  | .hbm, ⟨4, _⟩ => ⟨S2304x8, .bf16⟩
  | .hbm, ⟨5, _⟩ => ⟨S8x9216, .bf16⟩
  | .hbm, ⟨6, _⟩ => ⟨S18x1x9216, .bf16⟩
  | .hbm, ⟨7, _⟩ => ⟨S9216x2304, .bf16⟩
  | .hbm, ⟨8, _⟩ => ⟨S8x2304, .bf16⟩
  | .hbm, ⟨9, _⟩ => ⟨S_, .i32⟩
  | .hbm, ⟨10, _⟩ => ⟨S_, .bf16⟩
  | .hbm, ⟨11, _⟩ => ⟨S16x2304, .bf16⟩
  | .hbm, ⟨12, _⟩ => ⟨S_, .i32⟩
  | .hbm, ⟨13, _⟩ => ⟨S_, .bf16⟩
  | .hbm, ⟨14, _⟩ => ⟨S16x9216, .bf16⟩
  | .hbm, ⟨15, _⟩ => ⟨S18432x2304, .bf16⟩
  | .hbm, ⟨16, _⟩ => ⟨S18432x9216, .bf16⟩
  | .hbm, ⟨17, _⟩ => ⟨S18432x2304, .bf16⟩
  | .hbm, ⟨18, _⟩ => ⟨S16x2304, .f32⟩
  | .hbm, ⟨19, _⟩ => ⟨S16x9216, .f32⟩
  | .hbm, ⟨20, _⟩ => ⟨S18432x8, .bf16⟩
  | .hbm, ⟨21, _⟩ => ⟨S18432x8, .bf16⟩
  | .hbm, ⟨22, _⟩ => ⟨S18432x9216, .fp8e5m2⟩
  | .hbm, ⟨23, _⟩ => ⟨S72x1x256, .f32⟩
  | .hbm, ⟨24, _⟩ => ⟨S24x768x2304, .bf16⟩
  | .hbm, ⟨25, _⟩ => ⟨S8x2304, .f32⟩
  | .hbm, ⟨26, _⟩ => ⟨S2304x8, .f32⟩
  | .hbm, ⟨27, _⟩ => ⟨S8x9216, .f32⟩
  | .hbm, ⟨28, _⟩ => ⟨S24x768x8, .bf16⟩
  | .hbm, ⟨29, _⟩ => ⟨S24x768x8, .bf16⟩
  | .hbm, ⟨30, _⟩ => ⟨S24x768x9216, .fp8e5m2⟩
  | .hbm, ⟨31, _⟩ => ⟨S24x768, .f32⟩
  | .local _ .vmem, ⟨0, _⟩ => ⟨S64x1024, .i8⟩
  | .local _ .vmem, ⟨1, _⟩ => ⟨S64x1024, .i8⟩
  | .local _ .vmem, ⟨2, _⟩ => ⟨S1x1x1024, .bf16⟩
  | .local _ .vmem, ⟨3, _⟩ => ⟨S1x1x1024, .bf16⟩
  | .local _ .vmem, ⟨4, _⟩ => ⟨S1024x128, .bf16⟩
  | .local _ .vmem, ⟨5, _⟩ => ⟨S1024x128, .bf16⟩
  | .local _ .vmem, ⟨6, _⟩ => ⟨S256x2304, .bf16⟩
  | .local _ .vmem, ⟨7, _⟩ => ⟨S256x2304, .bf16⟩
  | .local _ .vmem, ⟨8, _⟩ => ⟨S256x9216, .bf16⟩
  | .local _ .vmem, ⟨9, _⟩ => ⟨S256x9216, .bf16⟩
  | .local _ .vmem, ⟨10, _⟩ => ⟨S9216x2304, .bf16⟩
  | .local _ .vmem, ⟨11, _⟩ => ⟨S16x9216, .bf16⟩
  | .local _ .vmem, ⟨12, _⟩ => ⟨S16x2304, .bf16⟩
  | .local _ .vmem, ⟨13, _⟩ => ⟨S256x2304, .bf16⟩
  | .local _ .vmem, ⟨14, _⟩ => ⟨S256x2304, .bf16⟩
  | .local _ .vmem, ⟨15, _⟩ => ⟨S16x2304, .f32⟩
  | .local _ .vmem, ⟨16, _⟩ => ⟨S16x9216, .f32⟩
  | .local _ .vmem, ⟨17, _⟩ => ⟨S256x8, .bf16⟩
  | .local _ .vmem, ⟨18, _⟩ => ⟨S256x8, .bf16⟩
  | .local _ .vmem, ⟨19, _⟩ => ⟨S256x8, .bf16⟩
  | .local _ .vmem, ⟨20, _⟩ => ⟨S256x8, .bf16⟩
  | .local _ .vmem, ⟨21, _⟩ => ⟨S256x9216, .fp8e5m2⟩
  | .local _ .vmem, ⟨22, _⟩ => ⟨S256x9216, .fp8e5m2⟩
  | .local _ .vmem, ⟨23, _⟩ => ⟨S1x1x256, .f32⟩
  | .local _ .vmem, ⟨24, _⟩ => ⟨S1x1x256, .f32⟩
  | .local _ .vmem, ⟨25, _⟩ => ⟨S256x128, .f32⟩
  | _, _ => ⟨S24x768x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev main_v7_6 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc1_stg10_0 : Ref sig .tc := ⟨.vmem, 21, rfl⟩
abbrev cc1_stg10_1 : Ref sig .tc := ⟨.vmem, 22, rfl⟩
abbrev cc1_stg11_0 : Ref sig .tc := ⟨.vmem, 23, rfl⟩
abbrev cc1_stg11_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem7_0 : DmaSem sig := 16
abbrev cc1_sem8_0 : DmaSem sig := 17
abbrev cc1_sem8_1 : DmaSem sig := 18
abbrev cc1_sem9_0 : DmaSem sig := 19
abbrev cc1_sem9_1 : DmaSem sig := 20
abbrev cc1_sem10_0 : DmaSem sig := 21
abbrev cc1_sem10_1 : DmaSem sig := 22
abbrev cc1_sem11_0 : DmaSem sig := 23
abbrev cc1_sem11_1 : DmaSem sig := 24

abbrev nD : Nat := 1
abbrev τ : Topo := Topo.v7x

variable {F : FTy → Type} [BitOps F]

abbrev grid0 : Pipeline.Grid := ⟨2, ![18, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x1024 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![72], ![false]⟩

@[reducible] def k1_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k1_mult1 (k1_t1 : Fin k1_t1_loop.trips) : BitVec 32 :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  v203
def k1_off1 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v205 : Index := Scalar.indexCast v204
  let c0_145 : Index := 0#32
  ![v205.toNat, 0]
def k1_off2 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v519 : Index := Scalar.indexCast v204
  let c0_172 : Index := 0#32
  ![v519.toNat, 0]
def k1_off3 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v526 : Index := Scalar.indexCast v204
  let c0_173 : Index := 0#32
  ![v526.toNat, 0]
def k1_off4 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v537 : Index := Scalar.indexCast v204
  let c128 : Index := 128#32
  ![v537.toNat, 128]
def k1_off5 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v548 : Index := Scalar.indexCast v204
  let c256_180 : Index := 256#32
  ![v548.toNat, 256]
def k1_off6 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v559 : Index := Scalar.indexCast v204
  let c384 : Index := 384#32
  ![v559.toNat, 384]
def k1_off7 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v570 : Index := Scalar.indexCast v204
  let c512_187 : Index := 512#32
  ![v570.toNat, 512]
def k1_off8 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v581 : Index := Scalar.indexCast v204
  let c640 : Index := 640#32
  ![v581.toNat, 640]
def k1_off9 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v592 : Index := Scalar.indexCast v204
  let c768_194 : Index := 768#32
  ![v592.toNat, 768]
def k1_off10 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v603 : Index := Scalar.indexCast v204
  let c896 : Index := 896#32
  ![v603.toNat, 896]
def k1_off11 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v614 : Index := Scalar.indexCast v204
  let c1024_201 : Index := 1024#32
  ![v614.toNat, 1024]
def k1_off12 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v625 : Index := Scalar.indexCast v204
  let c1152 : Index := 1152#32
  ![v625.toNat, 1152]
def k1_off13 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v636 : Index := Scalar.indexCast v204
  let c1280_208 : Index := 1280#32
  ![v636.toNat, 1280]
def k1_off14 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v647 : Index := Scalar.indexCast v204
  let c1408 : Index := 1408#32
  ![v647.toNat, 1408]
def k1_off15 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v658 : Index := Scalar.indexCast v204
  let c1536_215 : Index := 1536#32
  ![v658.toNat, 1536]
def k1_off16 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v669 : Index := Scalar.indexCast v204
  let c1664 : Index := 1664#32
  ![v669.toNat, 1664]
def k1_off17 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v680 : Index := Scalar.indexCast v204
  let c1792_222 : Index := 1792#32
  ![v680.toNat, 1792]
def k1_off18 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v691 : Index := Scalar.indexCast v204
  let c1920 : Index := 1920#32
  ![v691.toNat, 1920]
def k1_off19 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v702 : Index := Scalar.indexCast v204
  let c2048_229 : Index := 2048#32
  ![v702.toNat, 2048]
def k1_off20 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v713 : Index := Scalar.indexCast v204
  let c2176 : Index := 2176#32
  ![v713.toNat, 2176]
def k1_off21 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v724 : Index := Scalar.indexCast v204
  let c2304 : Index := 2304#32
  ![v724.toNat, 2304]
def k1_off22 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v735 : Index := Scalar.indexCast v204
  let c2432 : Index := 2432#32
  ![v735.toNat, 2432]
def k1_off23 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v746 : Index := Scalar.indexCast v204
  let c2560 : Index := 2560#32
  ![v746.toNat, 2560]
def k1_off24 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v757 : Index := Scalar.indexCast v204
  let c2688 : Index := 2688#32
  ![v757.toNat, 2688]
def k1_off25 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v768 : Index := Scalar.indexCast v204
  let c2816 : Index := 2816#32
  ![v768.toNat, 2816]
def k1_off26 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v779 : Index := Scalar.indexCast v204
  let c2944 : Index := 2944#32
  ![v779.toNat, 2944]
def k1_off27 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v790 : Index := Scalar.indexCast v204
  let c3072 : Index := 3072#32
  ![v790.toNat, 3072]
def k1_off28 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v801 : Index := Scalar.indexCast v204
  let c3200 : Index := 3200#32
  ![v801.toNat, 3200]
def k1_off29 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v812 : Index := Scalar.indexCast v204
  let c3328 : Index := 3328#32
  ![v812.toNat, 3328]
def k1_off30 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v823 : Index := Scalar.indexCast v204
  let c3456 : Index := 3456#32
  ![v823.toNat, 3456]
def k1_off31 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v834 : Index := Scalar.indexCast v204
  let c3584 : Index := 3584#32
  ![v834.toNat, 3584]
def k1_off32 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v845 : Index := Scalar.indexCast v204
  let c3712 : Index := 3712#32
  ![v845.toNat, 3712]
def k1_off33 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v856 : Index := Scalar.indexCast v204
  let c3840 : Index := 3840#32
  ![v856.toNat, 3840]
def k1_off34 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v867 : Index := Scalar.indexCast v204
  let c3968 : Index := 3968#32
  ![v867.toNat, 3968]
def k1_off35 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v878 : Index := Scalar.indexCast v204
  let c4096 : Index := 4096#32
  ![v878.toNat, 4096]
def k1_off36 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v889 : Index := Scalar.indexCast v204
  let c4224 : Index := 4224#32
  ![v889.toNat, 4224]
def k1_off37 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v900 : Index := Scalar.indexCast v204
  let c4352 : Index := 4352#32
  ![v900.toNat, 4352]
def k1_off38 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v911 : Index := Scalar.indexCast v204
  let c4480 : Index := 4480#32
  ![v911.toNat, 4480]
def k1_off39 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v922 : Index := Scalar.indexCast v204
  let c4608 : Index := 4608#32
  ![v922.toNat, 4608]
def k1_off40 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v933 : Index := Scalar.indexCast v204
  let c4736 : Index := 4736#32
  ![v933.toNat, 4736]
def k1_off41 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v944 : Index := Scalar.indexCast v204
  let c4864 : Index := 4864#32
  ![v944.toNat, 4864]
def k1_off42 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v955 : Index := Scalar.indexCast v204
  let c4992 : Index := 4992#32
  ![v955.toNat, 4992]
def k1_off43 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v966 : Index := Scalar.indexCast v204
  let c5120 : Index := 5120#32
  ![v966.toNat, 5120]
def k1_off44 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v977 : Index := Scalar.indexCast v204
  let c5248 : Index := 5248#32
  ![v977.toNat, 5248]
def k1_off45 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v988 : Index := Scalar.indexCast v204
  let c5376 : Index := 5376#32
  ![v988.toNat, 5376]
def k1_off46 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v999 : Index := Scalar.indexCast v204
  let c5504 : Index := 5504#32
  ![v999.toNat, 5504]
def k1_off47 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1010 : Index := Scalar.indexCast v204
  let c5632 : Index := 5632#32
  ![v1010.toNat, 5632]
def k1_off48 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1021 : Index := Scalar.indexCast v204
  let c5760 : Index := 5760#32
  ![v1021.toNat, 5760]
def k1_off49 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1032 : Index := Scalar.indexCast v204
  let c5888 : Index := 5888#32
  ![v1032.toNat, 5888]
def k1_off50 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1043 : Index := Scalar.indexCast v204
  let c6016 : Index := 6016#32
  ![v1043.toNat, 6016]
def k1_off51 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1054 : Index := Scalar.indexCast v204
  let c6144 : Index := 6144#32
  ![v1054.toNat, 6144]
def k1_off52 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1065 : Index := Scalar.indexCast v204
  let c6272 : Index := 6272#32
  ![v1065.toNat, 6272]
def k1_off53 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1076 : Index := Scalar.indexCast v204
  let c6400 : Index := 6400#32
  ![v1076.toNat, 6400]
def k1_off54 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1087 : Index := Scalar.indexCast v204
  let c6528 : Index := 6528#32
  ![v1087.toNat, 6528]
def k1_off55 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1098 : Index := Scalar.indexCast v204
  let c6656 : Index := 6656#32
  ![v1098.toNat, 6656]
def k1_off56 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1109 : Index := Scalar.indexCast v204
  let c6784 : Index := 6784#32
  ![v1109.toNat, 6784]
def k1_off57 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1120 : Index := Scalar.indexCast v204
  let c6912 : Index := 6912#32
  ![v1120.toNat, 6912]
def k1_off58 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1131 : Index := Scalar.indexCast v204
  let c7040 : Index := 7040#32
  ![v1131.toNat, 7040]
def k1_off59 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1142 : Index := Scalar.indexCast v204
  let c7168 : Index := 7168#32
  ![v1142.toNat, 7168]
def k1_off60 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1153 : Index := Scalar.indexCast v204
  let c7296 : Index := 7296#32
  ![v1153.toNat, 7296]
def k1_off61 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1164 : Index := Scalar.indexCast v204
  let c7424 : Index := 7424#32
  ![v1164.toNat, 7424]
def k1_off62 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1175 : Index := Scalar.indexCast v204
  let c7552 : Index := 7552#32
  ![v1175.toNat, 7552]
def k1_off63 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1186 : Index := Scalar.indexCast v204
  let c7680 : Index := 7680#32
  ![v1186.toNat, 7680]
def k1_off64 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1197 : Index := Scalar.indexCast v204
  let c7808 : Index := 7808#32
  ![v1197.toNat, 7808]
def k1_off65 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1208 : Index := Scalar.indexCast v204
  let c7936 : Index := 7936#32
  ![v1208.toNat, 7936]
def k1_off66 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1219 : Index := Scalar.indexCast v204
  let c8064 : Index := 8064#32
  ![v1219.toNat, 8064]
def k1_off67 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1230 : Index := Scalar.indexCast v204
  let c8192 : Index := 8192#32
  ![v1230.toNat, 8192]
def k1_off68 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1241 : Index := Scalar.indexCast v204
  let c8320 : Index := 8320#32
  ![v1241.toNat, 8320]
def k1_off69 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1252 : Index := Scalar.indexCast v204
  let c8448 : Index := 8448#32
  ![v1252.toNat, 8448]
def k1_off70 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1263 : Index := Scalar.indexCast v204
  let c8576 : Index := 8576#32
  ![v1263.toNat, 8576]
def k1_off71 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1274 : Index := Scalar.indexCast v204
  let c8704 : Index := 8704#32
  ![v1274.toNat, 8704]
def k1_off72 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1285 : Index := Scalar.indexCast v204
  let c8832 : Index := 8832#32
  ![v1285.toNat, 8832]
def k1_off73 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1296 : Index := Scalar.indexCast v204
  let c8960 : Index := 8960#32
  ![v1296.toNat, 8960]
def k1_off74 (k1_t1 : Fin k1_t1_loop.trips) : Fin 2 → Nat :=
  let c0_i32_1 : BitVec 32 := 0#32
  let c1_i32 : BitVec 32 := 1#32
  let arg14 : BitVec 32 := Scf.iv c0_i32_1 c1_i32 k1_t1
  let c32_i32 : BitVec 32 := 32#32
  let v203 : BitVec 32 := Scalar.muli arg14 c32_i32
  let v204 : BitVec 32 := v203
  let v1307 : Index := Scalar.indexCast v204
  let c9088 : Index := 9088#32
  ![v1307.toNat, 9088]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x2304 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x9216 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S9216x2304 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x9216 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x2304 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x2304 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S16x2304 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x9216 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x8 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x8 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x9216 .fp8e5m2 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x1x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== KernelIdeal.lean ====
variable {F : FTy → Type} [FloatOps F]
-- ==== ReferenceIdeal.lean ====
abbrev S24x768x2304 : Shape := ⟨3, ![24, 768, 2304]⟩
abbrev S24x768x9216 : Shape := ⟨3, ![24, 768, 9216]⟩
abbrev S1152x9216 : Shape := ⟨2, ![1152, 9216]⟩
abbrev S18x9216 : Shape := ⟨2, ![18, 9216]⟩
abbrev S2304x8 : Shape := ⟨2, ![2304, 8]⟩
abbrev S8x9216 : Shape := ⟨2, ![8, 9216]⟩
abbrev S18432x9216 : Shape := ⟨2, ![18432, 9216]⟩
abbrev S_ : Shape := ⟨0, ![]⟩
abbrev S18432 : Shape := ⟨1, ![18432]⟩
abbrev S254 : Shape := ⟨1, ![254]⟩
abbrev S18432x1 : Shape := ⟨2, ![18432, 1]⟩
abbrev S1x254 : Shape := ⟨2, ![1, 254]⟩
abbrev S18432x254 : Shape := ⟨2, ![18432, 254]⟩
abbrev S18432x2304 : Shape := ⟨2, ![18432, 2304]⟩
abbrev S18x64x9216 : Shape := ⟨3, ![18, 64, 9216]⟩
abbrev S18432x1152 : Shape := ⟨2, ![18432, 1152]⟩
abbrev S18432x1152x1 : Shape := ⟨3, ![18432, 1152, 1]⟩
abbrev S18432x1152x2 : Shape := ⟨3, ![18432, 1152, 2]⟩
abbrev S18432x8 : Shape := ⟨2, ![18432, 8]⟩
abbrev S24x768x8 : Shape := ⟨3, ![24, 768, 8]⟩
abbrev S24x768 : Shape := ⟨2, ![24, 768]⟩

abbrev nBuf : Space → Nat
  | .hbm => 129
  | .vmem => 3
  | .smem => 0
  | _ => 0

abbrev hbmTy0_0 (i : Nat) : BufTy := match i % 128 with
  | 0 => ⟨S24x768x2304, .bf16⟩
  | 1 => ⟨S24x768x9216, .bf16⟩
  | 2 => ⟨S1152x9216, .i8⟩
  | 3 => ⟨S18x9216, .bf16⟩
  | 4 => ⟨S2304x8, .bf16⟩
  | 5 => ⟨S8x9216, .bf16⟩
  | 6 => ⟨S18432x9216, .bf16⟩
  | 7 => ⟨S18432x9216, .f32⟩
  | 8 => ⟨S18432x9216, .f32⟩
  | 9 => ⟨S_, .f32⟩
  | 10 => ⟨S18432, .f32⟩
  | 11 => ⟨S_, .f32⟩
  | 12 => ⟨S18432, .f32⟩
  | 13 => ⟨S18432, .f32⟩
  | 14 => ⟨S254, .i32⟩
  | 15 => ⟨S_, .i32⟩
  | 16 => ⟨S254, .i32⟩
  | 17 => ⟨S254, .i32⟩
  | 18 => ⟨S254, .f32⟩
  | 19 => ⟨S18432x1, .f32⟩
  | 20 => ⟨S_, .f32⟩
  | 21 => ⟨S254, .f32⟩
  | 22 => ⟨S254, .f32⟩
  | 23 => ⟨S1x254, .f32⟩
  | 24 => ⟨S18432x254, .f32⟩
  | 25 => ⟨S18432x254, .f32⟩
  | 26 => ⟨S18432x254, .i1⟩
  | 27 => ⟨S1x254, .f32⟩
  | 28 => ⟨S_, .f32⟩
  | 29 => ⟨S18432x254, .f32⟩
  | 30 => ⟨S18432x254, .f32⟩
  | 31 => ⟨S18432x254, .f32⟩
  | 32 => ⟨S_, .f32⟩
  | 33 => ⟨S18432, .f32⟩
  | 34 => ⟨S_, .f32⟩
  | 35 => ⟨S18432, .f32⟩
  | 36 => ⟨S18432, .i1⟩
  | 37 => ⟨S_, .f32⟩
  | 38 => ⟨S18432, .f32⟩
  | 39 => ⟨S18432, .f32⟩
  | 40 => ⟨S_, .f32⟩
  | 41 => ⟨S18432, .f32⟩
  | 42 => ⟨S18432, .i1⟩
  | 43 => ⟨S_, .f32⟩
  | 44 => ⟨S18432, .f32⟩
  | 45 => ⟨S18432, .f32⟩
  | 46 => ⟨S_, .f32⟩
  | 47 => ⟨S18432, .f32⟩
  | 48 => ⟨S18432, .f32⟩
  | 49 => ⟨S18432, .f32⟩
  | 50 => ⟨S_, .f32⟩
  | 51 => ⟨S18432, .f32⟩
  | 52 => ⟨S18432, .f32⟩
  | 53 => ⟨S18432x1, .f32⟩
  | 54 => ⟨S18432x9216, .f32⟩
  | 55 => ⟨S18432x9216, .f32⟩
  | 56 => ⟨S_, .f32⟩
  | 57 => ⟨S_, .f32⟩
  | 58 => ⟨S_, .f32⟩
  | 59 => ⟨S18432x9216, .f32⟩
  | 60 => ⟨S18432x9216, .f32⟩
  | 61 => ⟨S_, .f32⟩
  | 62 => ⟨S18432x9216, .f32⟩
  | 63 => ⟨S18432x9216, .f32⟩
  | 64 => ⟨S18432x9216, .fp8e5m2⟩
  | 65 => ⟨S18432x9216, .bf16⟩
  | 66 => ⟨S18432x2304, .bf16⟩
  | 67 => ⟨S18x64x9216, .bf16⟩
  | 68 => ⟨S1152x9216, .bf16⟩
  | 69 => ⟨S1152x9216, .i32⟩
  | 70 => ⟨S_, .i32⟩
  | 71 => ⟨S1152x9216, .i32⟩
  | 72 => ⟨S1152x9216, .i32⟩
  | 73 => ⟨S_, .i32⟩
  | 74 => ⟨S1152x9216, .i32⟩
  | 75 => ⟨S1152x9216, .i1⟩
  | 76 => ⟨S_, .i32⟩
  | 77 => ⟨S1152x9216, .i32⟩
  | 78 => ⟨S1152x9216, .i32⟩
  | 79 => ⟨S1152x9216, .i32⟩
  | 80 => ⟨S1152x9216, .bf16⟩
  | 81 => ⟨S1152x9216, .bf16⟩
  | 82 => ⟨S_, .i32⟩
  | 83 => ⟨S1152x9216, .i32⟩
  | 84 => ⟨S1152x9216, .i32⟩
  | 85 => ⟨S_, .i32⟩
  | 86 => ⟨S1152x9216, .i32⟩
  | 87 => ⟨S1152x9216, .i1⟩
  | 88 => ⟨S_, .i32⟩
  | 89 => ⟨S1152x9216, .i32⟩
  | 90 => ⟨S1152x9216, .i32⟩
  | 91 => ⟨S1152x9216, .i32⟩
  | 92 => ⟨S1152x9216, .bf16⟩
  | 93 => ⟨S1152x9216, .bf16⟩
  | 94 => ⟨S18432x1152, .f32⟩
  | 95 => ⟨S18432x1152, .f32⟩
  | 96 => ⟨S18432x1, .f32⟩
  | 97 => ⟨S18432x1152, .f32⟩
  | 98 => ⟨S18432x1152, .f32⟩
  | 99 => ⟨S18432x1, .f32⟩
  | 100 => ⟨S18432x1152, .f32⟩
  | 101 => ⟨S18432x1152, .f32⟩
  | 102 => ⟨S18432x1152x1, .f32⟩
  | 103 => ⟨S18432x1152x1, .f32⟩
  | 104 => ⟨S18432x1152x2, .f32⟩
  | 105 => ⟨S18432x2304, .f32⟩
  | 106 => ⟨S18432x8, .f32⟩
  | 107 => ⟨S18432x8, .bf16⟩
  | 108 => ⟨S18432x8, .f32⟩
  | 109 => ⟨S18432x8, .bf16⟩
  | 110 => ⟨S18432x2304, .f32⟩
  | 111 => ⟨S_, .f32⟩
  | 112 => ⟨S18432x2304, .f32⟩
  | 113 => ⟨S18432x2304, .f32⟩
  | 114 => ⟨S18432x2304, .f32⟩
  | 115 => ⟨S18432x2304, .bf16⟩
  | 116 => ⟨S24x768x2304, .bf16⟩
  | 117 => ⟨S2304x8, .f32⟩
  | 118 => ⟨S_, .f32⟩
  | 119 => ⟨S2304x8, .f32⟩
  | 120 => ⟨S2304x8, .f32⟩
  | 121 => ⟨S8x9216, .f32⟩
  | 122 => ⟨S_, .f32⟩
  | 123 => ⟨S8x9216, .f32⟩
  | 124 => ⟨S8x9216, .f32⟩
  | 125 => ⟨S24x768x8, .bf16⟩
  | 126 => ⟨S24x768x8, .bf16⟩
  | 127 => ⟨S24x768x9216, .fp8e5m2⟩
  | _ => ⟨S24x768x2304, .bf16⟩

abbrev hbmTy0_1 (i : Nat) : BufTy := match i % 128 with
  | 0 => ⟨S24x768, .f32⟩
  | _ => ⟨S24x768x2304, .bf16⟩

abbrev hbmTy (i : Nat) : BufTy := match i / 128 with
  | 0 => hbmTy0_0 i
  | 1 => hbmTy0_1 i
  | _ => ⟨S24x768x2304, .bf16⟩

abbrev bufTy : (tb : Table) → Fin (tcTables nBuf tb) → BufTy
  | .hbm, ⟨i, _⟩ => hbmTy i
  | .local _ .vmem, ⟨0, _⟩ => ⟨S18432x9216, .f32⟩
  | .local _ .vmem, ⟨1, _⟩ => ⟨S18432x9216, .fp8e5m2⟩
  | .local _ .vmem, ⟨2, _⟩ => ⟨S18432x9216, .bf16⟩
  | _, _ => ⟨S24x768x2304, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_call1_v0 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_call2_v0 : Ref sig .tc := ⟨.hbm, 44, rfl⟩
abbrev main_v25 : Ref sig .tc := ⟨.hbm, 45, rfl⟩
abbrev main_cst_8 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_10 : Ref sig .tc := ⟨.hbm, 56, rfl⟩
abbrev main_cst_11 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v34 : Ref sig .tc := ⟨.hbm, 63, rfl⟩
abbrev main_v35_0 : Ref sig .tc := ⟨.hbm, 64, rfl⟩
abbrev main_v35_1 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_12 : Ref sig .tc := ⟨.hbm, 70, rfl⟩
abbrev main_v40 : Ref sig .tc := ⟨.hbm, 71, rfl⟩
abbrev main_v41 : Ref sig .tc := ⟨.hbm, 72, rfl⟩
abbrev main_c_13 : Ref sig .tc := ⟨.hbm, 73, rfl⟩
abbrev main_v42 : Ref sig .tc := ⟨.hbm, 74, rfl⟩
abbrev main_v43 : Ref sig .tc := ⟨.hbm, 75, rfl⟩
abbrev main_c_14 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_15 : Ref sig .tc := ⟨.hbm, 82, rfl⟩
abbrev main_v49 : Ref sig .tc := ⟨.hbm, 83, rfl⟩
abbrev main_v50 : Ref sig .tc := ⟨.hbm, 84, rfl⟩
abbrev main_c_16 : Ref sig .tc := ⟨.hbm, 85, rfl⟩
abbrev main_v51 : Ref sig .tc := ⟨.hbm, 86, rfl⟩
abbrev main_v52 : Ref sig .tc := ⟨.hbm, 87, rfl⟩
abbrev main_c_17 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_18 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_19 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_20 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S18432x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x9216 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x9216 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Run.lean ====
module

public import proofs.«01_k».proof.Proof.Gen.KernelIdeal.Frame

/-!
The kernel's run with its results: every final state holds, at the seven result buffers, what the last boundary's
valuation holds there.
-/

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option backward.isDefEq.respectTransparency.types false in
/-- The run of the kernel's program: it ends, the results hold the last boundary's contents, the arguments are as launched. -/
theorem run_values (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_v8) = W9 m ρ c (Proc.devRef .tc main_v8)
      ∧ r.2.mem ((c.tc : Thread nD τ).loc main_v10) = W9 m ρ c (Proc.devRef .tc main_v10)
      ∧ r.2.mem ((c.tc : Thread nD τ).loc main_v11) = W9 m ρ c (Proc.devRef .tc main_v11)
      ∧ r.2.mem ((c.tc : Thread nD τ).loc main_v12) = W9 m ρ c (Proc.devRef .tc main_v12)
      ∧ r.2.mem ((c.tc : Thread nD τ).loc main_v13) = W9 m ρ c (Proc.devRef .tc main_v13)
      ∧ r.2.mem ((c.tc : Thread nD τ).loc main_v14) = W9 m ρ c (Proc.devRef .tc main_v14)
      ∧ r.2.mem ((c.tc : Thread nD τ).loc main_v15) = W9 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => (fun c =>
      ⟨(h c _ (mem_uc main_v8 (by decide))),
       (h c _ (mem_uc main_v10 (by decide))),
       (h c _ (mem_uc main_v11 (by decide))),
       (h c _ (mem_uc main_v12 (by decide))),
       (h c _ (mem_uc main_v13 (by decide))),
       (h c _ (mem_uc main_v14 (by decide))),
       (h c _ (mem_uc main_v15 (by decide))),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩))

end Cert.KernelIdeal.Val

end
-- ==== Proof.Exponent.lean ====
module

public import Idealize.ShloMosaic.Lib.Pipeline.ValueKit

/-!
The power of two a row is scaled by. A nonnegative number `r` has the exponent of `frexp`: the integer `e` with
`2^(e-1) ≤ r < 2^e`, and `0` where `r` is below the least normal number. The kernel finds it by a search over the eight
exponent bits of a 32-bit float; the reference takes the least `e` with `r < 2^e`. Both are `frexpOf r`.
-/

@[expose] public section

set_option maxRecDepth 16384
open Idealize.ShloMosaic

namespace Cert.Quant

open Classical in
/-- The exponent of `r ≥ 0`: the integer `e` with `2^(e-1) ≤ r < 2^e`, and `0` below `2^(-126)`. -/
noncomputable def frexpOf (r : EReal) : ℤ :=
  if r < (((2 : ℝ) ^ (-126 : ℤ) : ℝ) : EReal) then 0
  else if h : ∃ e : ℤ, (((2 : ℝ) ^ (e - 1) : ℝ) : EReal) ≤ r ∧ r < (((2 : ℝ) ^ e : ℝ) : EReal) then h.choose else 0

/-- The number whose exponent bits are `f` and whose other bits are zero. -/
noncomputable def fl (f : BitVec 32) : EReal := Ideal.ofBits .f32 (IntOp.shli .vector f 23#32)

/-- One step of the search over the exponent bits: the bit `b` is kept where `r` is at least the number it gives. -/
noncomputable def bstep (r : EReal) (b f : BitVec 32) : BitVec 32 := if r < fl (f + b) then f else f + b

/-- The exponent bits the search finds. -/
noncomputable def field (r : EReal) : BitVec 32 :=
  bstep r 1#32 (bstep r 2#32 (bstep r 4#32 (bstep r 8#32 (bstep r 16#32 (bstep r 32#32 (bstep r 64#32 (bstep r 128#32 0#32)))))))

/-- The float whose exponent field is `k` and whose other bits are zero. -/
theorem ex_bits (k : ℕ) (hk : k < 256) :
    ((IntOp.shli .vector (BitVec.ofNat 32 k) 23#32).extractLsb' 23 8).toNat = k
    ∧ ((IntOp.shli .vector (BitVec.ofNat 32 k) 23#32).extractLsb' 0 23).toNat = 0
    ∧ ((IntOp.shli .vector (BitVec.ofNat 32 k) 23#32).extractLsb' 31 1) = 0#1 := by
  have key : ∀ k : Fin 256, ((IntOp.shli .vector (BitVec.ofNat 32 k) 23#32).extractLsb' 23 8).toNat = k
    ∧ ((IntOp.shli .vector (BitVec.ofNat 32 k) 23#32).extractLsb' 0 23).toNat = 0
    ∧ ((IntOp.shli .vector (BitVec.ofNat 32 k) 23#32).extractLsb' 31 1) = 0#1 := by decide +kernel
  exact key ⟨k, hk⟩

/-- Exponent bits `1 … 254` give the powers of two. -/
theorem fl_pow (k : ℕ) (h1 : 1 ≤ k) (h2 : k ≤ 254) :
    fl (BitVec.ofNat 32 k) = (((2 : ℝ) ^ ((k : ℤ) - 127) : ℝ) : EReal) := by
  obtain ⟨ha, hb, hc⟩ := ex_bits k (by omega)
  unfold fl Ideal.ofBits Ideal.ieee
  simp only [ha, hb, show (8 + 23 : ℕ) = 31 from rfl, hc]
  rw [if_neg (by norm_num; omega), if_neg (by omega)]
  simp only [show ((0#1 == 1#1) = true) = False from by simp, if_false]
  refine congrArg Real.toEReal ?_
  have : ((k : ℤ) - (2 ^ (8 - 1) - 1) - (23 : ℕ)) = ((k : ℤ) - 127) - 23 := by norm_num
  rw [this, zpow_sub₀ (by norm_num : (2 : ℝ) ≠ 0)]
  norm_num
  field_simp

/-- Exponent bits zero give zero. -/
theorem fl_zero : fl (BitVec.ofNat 32 0) = 0 := by
  obtain ⟨ha, hb, hc⟩ := ex_bits 0 (by omega)
  unfold fl Ideal.ofBits Ideal.ieee
  simp only [ha, hb]
  norm_num

/-- All exponent bits set give infinity. -/
theorem fl_top : fl (BitVec.ofNat 32 255) = ⊤ := by
  obtain ⟨ha, hb, hc⟩ := ex_bits 255 (by omega)
  unfold fl Ideal.ofBits Ideal.ieee
  simp only [ha, hb, show (8 + 23 : ℕ) = 31 from rfl, hc]
  norm_num

/-- One step of the binary search on numbers: the bit is added where the threshold is at least the field with it. -/
theorem bstep_ofNat (r : EReal) (f0 b f : ℕ) (h : ∀ k, k ≤ 255 → (r < fl (BitVec.ofNat 32 k) ↔ f0 < k)) (hb : f + b ≤ 255) :
    bstep r (BitVec.ofNat 32 b) (BitVec.ofNat 32 f) = BitVec.ofNat 32 (if f0 < f + b then f else f + b) := by
  unfold bstep
  rw [← BitVec.ofNat_add, if_congr (h (f + b) hb) rfl rfl]
  split <;> rfl

/-- The search finds the greatest exponent bits whose number is at most `r`. -/
theorem field_eq (r : EReal) (f0 : ℕ) (hf : f0 ≤ 255) (h : ∀ k, k ≤ 255 → (r < fl (BitVec.ofNat 32 k) ↔ f0 < k)) :
    field r = BitVec.ofNat 32 f0 := by
  unfold field
  have s7 : bstep r 128#32 0#32 = BitVec.ofNat 32 (f0 / 128 * 128) := by
    rw [show (128#32) = BitVec.ofNat 32 128 from rfl, show (0#32) = BitVec.ofNat 32 0 from rfl, bstep_ofNat r f0 128 0 h (by omega)]
    congr 1; split <;> omega
  rw [s7]
  have s6 : bstep r 64#32 (BitVec.ofNat 32 (f0 / 128 * 128)) = BitVec.ofNat 32 (f0 / 64 * 64) := by
    rw [show (64#32) = BitVec.ofNat 32 64 from rfl, bstep_ofNat r f0 64 _ h (by omega)]
    congr 1; split <;> omega
  rw [s6]
  have s5 : bstep r 32#32 (BitVec.ofNat 32 (f0 / 64 * 64)) = BitVec.ofNat 32 (f0 / 32 * 32) := by
    rw [show (32#32) = BitVec.ofNat 32 32 from rfl, bstep_ofNat r f0 32 _ h (by omega)]
    congr 1; split <;> omega
  rw [s5]
  have s4 : bstep r 16#32 (BitVec.ofNat 32 (f0 / 32 * 32)) = BitVec.ofNat 32 (f0 / 16 * 16) := by
    rw [show (16#32) = BitVec.ofNat 32 16 from rfl, bstep_ofNat r f0 16 _ h (by omega)]
    congr 1; split <;> omega
  rw [s4]
  have s3 : bstep r 8#32 (BitVec.ofNat 32 (f0 / 16 * 16)) = BitVec.ofNat 32 (f0 / 8 * 8) := by
    rw [show (8#32) = BitVec.ofNat 32 8 from rfl, bstep_ofNat r f0 8 _ h (by omega)]
    congr 1; split <;> omega
  rw [s3]
  have s2 : bstep r 4#32 (BitVec.ofNat 32 (f0 / 8 * 8)) = BitVec.ofNat 32 (f0 / 4 * 4) := by
    rw [show (4#32) = BitVec.ofNat 32 4 from rfl, bstep_ofNat r f0 4 _ h (by omega)]
    congr 1; split <;> omega
  rw [s2]
  have s1 : bstep r 2#32 (BitVec.ofNat 32 (f0 / 4 * 4)) = BitVec.ofNat 32 (f0 / 2 * 2) := by
    rw [show (2#32) = BitVec.ofNat 32 2 from rfl, bstep_ofNat r f0 2 _ h (by omega)]
    congr 1; split <;> omega
  rw [s1, show (1#32) = BitVec.ofNat 32 1 from rfl, bstep_ofNat r f0 1 _ h (by omega)]
  congr 1; split <;> omega

/-- Powers of two grow with the exponent. -/
theorem two_zpow_le (a b : ℤ) (h : a ≤ b) : (((2 : ℝ) ^ a : ℝ) : EReal) ≤ (((2 : ℝ) ^ b : ℝ) : EReal) :=
  EReal.coe_le_coe_iff.mpr (zpow_le_zpow_right₀ (by norm_num) h)

/-- A number in the normal range lies in the binade its exponent names. -/
theorem frexp_binade (r : EReal) (hlo : ¬ r < (((2 : ℝ) ^ (-126 : ℤ) : ℝ) : EReal)) (hhi : r < (((2 : ℝ) ^ (126 : ℤ) : ℝ) : EReal)) :
    (((2 : ℝ) ^ (frexpOf r - 1) : ℝ) : EReal) ≤ r ∧ r < (((2 : ℝ) ^ (frexpOf r) : ℝ) : EReal)
    ∧ -125 ≤ frexpOf r ∧ frexpOf r ≤ 126 := by
  have hlo' := not_lt.mp hlo
  have hb : r ≠ ⊥ := fun h => by rw [h] at hlo'; exact absurd (le_bot_iff.mp hlo') (EReal.coe_ne_bot _)
  have ht : r ≠ ⊤ := fun h => by rw [h] at hhi; exact absurd hhi not_top_lt
  have hex : ∃ e : ℤ, (((2 : ℝ) ^ (e - 1) : ℝ) : EReal) ≤ r ∧ r < (((2 : ℝ) ^ e : ℝ) : EReal) := by
    lift r to ℝ using ⟨ht, hb⟩
    have hr : 0 < r := lt_of_lt_of_le (by positivity) (EReal.coe_le_coe_iff.mp hlo')
    obtain ⟨n, h1, h2⟩ := exists_mem_Ico_zpow hr (by norm_num : (1 : ℝ) < 2)
    exact ⟨n + 1, by rw [add_sub_cancel_right]; exact EReal.coe_le_coe_iff.mpr h1, EReal.coe_lt_coe_iff.mpr h2⟩
  have he : frexpOf r = hex.choose := by unfold frexpOf; rw [if_neg hlo, dif_pos hex]
  obtain ⟨h1, h2⟩ := hex.choose_spec
  rw [← he] at h1 h2
  refine ⟨h1, h2, ?_, ?_⟩
  · have : (-126 : ℤ) < frexpOf r :=
      (zpow_lt_zpow_iff_right₀ (by norm_num : (1 : ℝ) < 2)).mp (EReal.coe_lt_coe_iff.mp (lt_of_le_of_lt hlo' h2))
    omega
  · have : frexpOf r - 1 < 126 :=
      (zpow_lt_zpow_iff_right₀ (by norm_num : (1 : ℝ) < 2)).mp (EReal.coe_lt_coe_iff.mp (lt_of_le_of_lt h1 hhi))
    omega

/-- The exponent the kernel builds its two factors from: the bits found, `126` where they are zero, less `126`. -/
noncomputable def kexp (r : EReal) : BitVec 32 :=
  (if field r = 0#32 then 126#32 else field r) - 126#32

/-- The two factors the kernel builds from the bits found are `2^e` and `2^(-e)`, `e` the exponent of `r`. -/
theorem factors (r : EReal) (h0 : 0 ≤ r) (h1 : r < (((2 : ℝ) ^ (126 : ℤ) : ℝ) : EReal)) :
    fl (kexp r + 127#32) = (((2 : ℝ) ^ (frexpOf r) : ℝ) : EReal) ∧ fl (127#32 - kexp r) = (((2 : ℝ) ^ (- frexpOf r) : ℝ) : EReal) := by
  by_cases hlo : r < (((2 : ℝ) ^ (-126 : ℤ) : ℝ) : EReal)
  · have hf : field r = BitVec.ofNat 32 0 := by
      refine field_eq r 0 (by omega) fun k hk => ?_
      rcases Nat.eq_zero_or_pos k with rfl | hp
      · rw [fl_zero]; simpa using h0
      · refine iff_of_true ?_ hp
        rcases Nat.lt_or_ge 254 k with h | h
        · rw [show k = 255 by omega, fl_top]; exact lt_of_lt_of_le hlo le_top
        · rw [fl_pow k hp h]; exact lt_of_lt_of_le hlo (two_zpow_le _ _ (by omega))
    have hk : kexp r = 0#32 := by unfold kexp; rw [hf]; rfl
    have he : frexpOf r = 0 := by unfold frexpOf; rw [if_pos hlo]
    rw [hk, he]
    have := fl_pow 127 (by omega) (by omega)
    exact ⟨by rw [show (0#32 + 127#32) = BitVec.ofNat 32 127 from rfl, this]; norm_num,
      by rw [show (127#32 - 0#32) = BitVec.ofNat 32 127 from rfl, this]; norm_num⟩
  · obtain ⟨ha, hb, hc, hd⟩ := frexp_binade r hlo h1
    generalize frexpOf r = e at *
    obtain ⟨f, rfl⟩ : ∃ f : ℕ, e = (f : ℤ) - 126 := ⟨(e + 126).toNat, by omega⟩
    have hf : field r = BitVec.ofNat 32 f := by
      refine field_eq r f (by omega) fun k hk => ?_
      rcases Nat.eq_zero_or_pos k with rfl | hp
      · rw [fl_zero]; simpa using h0
      rcases Nat.lt_or_ge 254 k with h | h
      · rw [show k = 255 by omega, fl_top]
        exact iff_of_true (lt_of_lt_of_le h1 le_top) (by omega)
      · rw [fl_pow k hp h]
        constructor
        · intro hlt
          by_contra hn
          exact absurd (lt_of_lt_of_le hlt (two_zpow_le _ _ (by omega))) (not_lt.mpr ha)
        · intro hlt
          exact lt_of_lt_of_le hb (two_zpow_le _ _ (by omega))
    have hne : BitVec.ofNat 32 f ≠ 0#32 := by
      intro h; have := congrArg BitVec.toNat h; simp [BitVec.toNat_ofNat] at this; omega
    have hk : kexp r = BitVec.ofNat 32 f - 126#32 := by unfold kexp; rw [hf, if_neg hne]
    have k1 : kexp r + 127#32 = BitVec.ofNat 32 (f + 1) := by
      rw [hk]; apply BitVec.eq_of_toNat_eq; simp [BitVec.toNat_add, BitVec.toNat_sub, BitVec.toNat_ofNat]; omega
    have k2 : 127#32 - kexp r = BitVec.ofNat 32 (253 - f) := by
      rw [hk]; apply BitVec.eq_of_toNat_eq; simp [BitVec.toNat_add, BitVec.toNat_sub, BitVec.toNat_ofNat]; omega
    rw [k1, k2, fl_pow _ (by omega) (by omega), fl_pow _ (by omega) (by omega)]
    exact ⟨by rw [show (((f + 1 : ℕ) : ℤ) - 127) = (f : ℤ) - 126 by push_cast; omega],
      by rw [show (((253 - f : ℕ) : ℤ) - 127) = -((f : ℤ) - 126) by omega]⟩

end Cert.Quant
-- ==== Proof.Spec.lean ====
module

public import proofs.«01_k».proof.Proof.Exponent

/-!
What the seven results are, by coordinates, over the extended reals: the quantiser of one row of `dy` (`amax`, `ratio`,
`scaleOf`, `invOf`, `codeOf`), and the contractions.
-/

@[expose] public section

set_option maxRecDepth 16384
open Idealize.ShloMosaic

namespace Cert.Quant

/-- The greatest magnitude of a row. -/
noncomputable def amax (v : Fin 9216 → EReal) : EReal := Finset.univ.sup fun n => max (v n) (-v n)

/-- The row's greatest magnitude over the greatest code. -/
noncomputable def ratio (v : Fin 9216 → EReal) : EReal := amax v * Ideal.ofBits .f32 0x37924925#32

/-- The row's scale: a power of two. -/
noncomputable def scaleOf (v : Fin 9216 → EReal) : EReal := (((2 : ℝ) ^ (frexpOf (ratio v)) : ℝ) : EReal)

/-- The inverse of the row's scale. -/
noncomputable def invOf (v : Fin 9216 → EReal) : EReal := (((2 : ℝ) ^ (- frexpOf (ratio v)) : ℝ) : EReal)

/-- The code of one element: the element over the scale, clipped to the range of the codes. -/
noncomputable def codeOf (v : Fin 9216 → EReal) (n : Fin 9216) : EReal :=
  min ((57344 : ℝ) : EReal) (max ((-57344 : ℝ) : EReal) (v n * invOf v))

/-- The greatest code as a bfloat16. -/
theorem hi_bf16 : Ideal.ofBits .bf16 0x4760#16 = ((57344 : ℝ) : EReal) := by
  simp [Ideal.ofBits, Ideal.ieee, -EReal.coe_mul]; norm_num

/-- Its negative. -/
theorem lo_bf16 : Ideal.ofBits .bf16 0xC760#16 = ((-57344 : ℝ) : EReal) := by
  simp [Ideal.ofBits, Ideal.ieee, -EReal.coe_mul]; norm_num

/-- The greatest code as a float32. -/
theorem hi_f32 : Ideal.ofBits .f32 0x47600000#32 = ((57344 : ℝ) : EReal) := by
  simp [Ideal.ofBits, Ideal.ieee, -EReal.coe_mul]; norm_num

/-- Its negative. -/
theorem lo_f32 : Ideal.ofBits .f32 0xC7600000#32 = ((-57344 : ℝ) : EReal) := by
  simp [Ideal.ofBits, Ideal.ieee, -EReal.coe_mul]; norm_num

/-- Minus infinity. -/
theorem bot_f32 : Ideal.ofBits .f32 0xFF800000#32 = ⊥ := by
  simp [Ideal.ofBits, Ideal.ieee]

/-- Infinity. -/
theorem top_f32 : Ideal.ofBits .f32 0x7F800000#32 = ⊤ := by
  simp [Ideal.ofBits, Ideal.ieee]

/-- Two. -/
theorem two_f32 : Ideal.ofBits .f32 0x40000000#32 = ((2 : ℝ) : EReal) := by
  simp [Ideal.ofBits, Ideal.ieee, -EReal.coe_mul]; norm_num

/-- The constant the greatest magnitude is multiplied by. -/
theorem recip_f32 : Ideal.ofBits .f32 0x37924925#32 = (((9586981 : ℝ) * (2 : ℝ) ^ (-39 : ℤ) : ℝ) : EReal) := by
  simp [Ideal.ofBits, Ideal.ieee, -EReal.coe_mul]

/-- A greatest magnitude is not negative. -/
theorem amax_nonneg (v : Fin 9216 → EReal) : 0 ≤ amax v := by
  refine le_trans ?_ (Finset.le_sup (f := fun n => max (v n) (-v n)) (Finset.mem_univ (0 : Fin 9216)))
  rcases le_total 0 (v 0) with h | h
  · exact le_max_of_le_left h
  · exact le_max_of_le_right (EReal.neg_nonneg.mpr h)

/-- Nor is the ratio. -/
theorem ratio_nonneg (v : Fin 9216 → EReal) : 0 ≤ ratio v := by
  unfold ratio
  rw [recip_f32]
  exact mul_nonneg (amax_nonneg v) (EReal.coe_nonneg.mpr (by positivity))

/-- A row of finite bfloat16 numbers has a ratio far below `2^126`. -/
theorem ratio_lt (v : Fin 9216 → EReal) (h : ∀ n, max (v n) (-v n) ≤ Ideal.ofBits .bf16 0x7F7F#16) :
    ratio v < (((2 : ℝ) ^ (126 : ℤ) : ℝ) : EReal) := by
  have hm : Ideal.ofBits .bf16 0x7F7F#16 = (((255 : ℝ) * (2 : ℝ) ^ (120 : ℤ) : ℝ) : EReal) := by
    simp [Ideal.ofBits, Ideal.ieee, -EReal.coe_mul]
  have ha : amax v ≤ (((255 : ℝ) * (2 : ℝ) ^ (120 : ℤ) : ℝ) : EReal) := Finset.sup_le fun n _ => hm ▸ h n
  unfold ratio
  rw [recip_f32]
  refine lt_of_le_of_lt (mul_le_mul_of_nonneg_right ha (EReal.coe_nonneg.mpr (by positivity))) ?_
  rw [← EReal.coe_mul]
  exact EReal.coe_lt_coe_iff.mpr (by norm_num)

end Cert.Quant
-- ==== Proof.RowScale.lean ====
module

public import proofs.«01_k».proof.Proof.Gen.KernelIdeal.Frame
public import Idealize.ShloMosaic.Lib.Pipeline.ValueKit
public import proofs.«01_k».proof.Proof.Spec

/-!
The row statistics of one block of 32 rows: the chain of maxima over the 72 lane tiles and then over the lanes is the
row's greatest magnitude, and the bit search gives the row's scale and its inverse.
-/

@[expose] public section

set_option maxRecDepth 16384
open Idealize.ShloMosaic Idealize.ShloMosaic.TcCoe Idealize.SL.Sem
open Cert.KernelIdeal Cert.KernelIdeal.Gen Cert.Quant

namespace Cert.KernelIdeal.Val

/-- The magnitude of element `n` of row `a`. -/
noncomputable def mag (x : FVec Ideal S32x9216 .bf16) (a : Fin 32) (n : Fin 9216) : EReal := max (x (ix2 a n)) (-x (ix2 a n))

/-- The block of the gradient is read as it is. -/
theorem pay2_eq (B : Vec Ideal S32x9216 .bf16) : k1_pay2 (F := Ideal) B = B := by
  funext y
  obtain ⟨a, n, rfl⟩ : ∃ a n, y = ix2 a n := ⟨_, _, eq_ix2 y⟩
  unfold_payloads
  pointwise

/-- Lane tiles 0 to 16 of the chain: it is at most `M` where every one of them is. -/
theorem pay3_le (x : FVec Ideal S32x9216 .bf16) (a : Fin 32) (l : Fin 128) (M : EReal) :
    k1_pay3 (F := Ideal) x (ix2 a l) ≤ M ↔ ∀ j, 0 ≤ j → (hj : j < 17) → mag x a ⟨128 * j + l.val, by omega⟩ ≤ M := by
  have e : k1_pay3 (F := Ideal) x (ix2 a l) = max (max (max (max (max (max (max (max (max (max (max (max (max (max (max (max (FloatOps.absf (F := Ideal) (φ := .bf16) (x (ix2 a ⟨0 + l.val, by omega⟩))) (FloatOps.absf (F := Ideal) (φ := .bf16) (x (ix2 a ⟨128 + l.val, by omega⟩)))) (FloatOps.absf (F := Ideal) (φ := .bf16) (x (ix2 a ⟨256 + l.val, by omega⟩)))) (FloatOps.absf (F := Ideal) (φ := .bf16) (x (ix2 a ⟨384 + l.val, by omega⟩)))) (FloatOps.absf (F := Ideal) (φ := .bf16) (x (ix2 a ⟨512 + l.val, by omega⟩)))) (FloatOps.absf (F := Ideal) (φ := .bf16) (x (ix2 a ⟨640 + l.val, by omega⟩)))) (FloatOps.absf (F := Ideal) (φ := .bf16) (x (ix2 a ⟨768 + l.val, by omega⟩)))) (FloatOps.absf (F := Ideal) (φ := .bf16) (x (ix2 a ⟨896 + l.val, by omega⟩)))) (FloatOps.absf (F := Ideal) (φ := .bf16) (x (ix2 a ⟨1024 + l.val, by omega⟩)))) (FloatOps.absf (F := Ideal) (φ := .bf16) (x (ix2 a ⟨1152 + l.val, by omega⟩)))) (FloatOps.absf (F := Ideal) (φ := .bf16) (x (ix2 a ⟨1280 + l.val, by omega⟩)))) (FloatOps.absf (F := Ideal) (φ := .bf16) (x (ix2 a ⟨1408 + l.val, by omega⟩)))) (FloatOps.absf (F := Ideal) (φ := .bf16) (x (ix2 a ⟨1536 + l.val, by omega⟩)))) (FloatOps.absf (F := Ideal) (φ := .bf16) (x (ix2 a ⟨1664 + l.val, by omega⟩)))) (FloatOps.absf (F := Ideal) (φ := .bf16) (x (ix2 a ⟨1792 + l.val, by omega⟩)))) (FloatOps.absf (F := Ideal) (φ := .bf16) (x (ix2 a ⟨1920 + l.val, by omega⟩)))) (FloatOps.absf (F := Ideal) (φ := .bf16) (x (ix2 a ⟨2048 + l.val, by omega⟩))) := by
    unfold_payloads
    try rw [pay2_eq]
    pointwise
  rw [e]
  try simp only [max_le_iff, and_assoc]
  change mag x a ⟨0 + l.val, by omega⟩ ≤ M ∧ mag x a ⟨128 + l.val, by omega⟩ ≤ M ∧ mag x a ⟨256 + l.val, by omega⟩ ≤ M ∧ mag x a ⟨384 + l.val, by omega⟩ ≤ M ∧ mag x a ⟨512 + l.val, by omega⟩ ≤ M ∧ mag x a ⟨640 + l.val, by omega⟩ ≤ M ∧ mag x a ⟨768 + l.val, by omega⟩ ≤ M ∧ mag x a ⟨896 + l.val, by omega⟩ ≤ M ∧ mag x a ⟨1024 + l.val, by omega⟩ ≤ M ∧ mag x a ⟨1152 + l.val, by omega⟩ ≤ M ∧ mag x a ⟨1280 + l.val, by omega⟩ ≤ M ∧ mag x a ⟨1408 + l.val, by omega⟩ ≤ M ∧ mag x a ⟨1536 + l.val, by omega⟩ ≤ M ∧ mag x a ⟨1664 + l.val, by omega⟩ ≤ M ∧ mag x a ⟨1792 + l.val, by omega⟩ ≤ M ∧ mag x a ⟨1920 + l.val, by omega⟩ ≤ M ∧ mag x a ⟨2048 + l.val, by omega⟩ ≤ M ↔ _
  constructor
  · rintro ⟨h0, h1, h2, h3, h4, h5, h6, h7, h8, h9, h10, h11, h12, h13, h14, h15, h16⟩
    intro j p1 p2
    interval_cases j
    · exact h0
    · exact h1
    · exact h2
    · exact h3
    · exact h4
    · exact h5
    · exact h6
    · exact h7
    · exact h8
    · exact h9
    · exact h10
    · exact h11
    · exact h12
    · exact h13
    · exact h14
    · exact h15
    · exact h16
  · rintro h
    exact ⟨h 0 (by norm_num) (by norm_num), h 1 (by norm_num) (by norm_num), h 2 (by norm_num) (by norm_num), h 3 (by norm_num) (by norm_num), h 4 (by norm_num) (by norm_num), h 5 (by norm_num) (by norm_num), h 6 (by norm_num) (by norm_num), h 7 (by norm_num) (by norm_num), h 8 (by norm_num) (by norm_num), h 9 (by norm_num) (by norm_num), h 10 (by norm_num) (by norm_num), h 11 (by norm_num) (by norm_num), h 12 (by norm_num) (by norm_num), h 13 (by norm_num) (by norm_num), h 14 (by norm_num) (by norm_num), h 15 (by norm_num) (by norm_num), h 16 (by norm_num) (by norm_num)⟩

/-- Lane tiles 17 to 17 of the chain: it is at most `M` where every one of them is. -/
theorem pay4_le (x : FVec Ideal S32x9216 .bf16) (a : Fin 32) (l : Fin 128) (M : EReal) :
    k1_pay4 (F := Ideal) x (ix2 a l) ≤ M ↔ ∀ j, 17 ≤ j → (hj : j < 18) → mag x a ⟨128 * j + l.val, by omega⟩ ≤ M := by
  have e : k1_pay4 (F := Ideal) x (ix2 a l) = FloatOps.absf (F := Ideal) (φ := .bf16) (x (ix2 a ⟨2176 + l.val, by omega⟩)) := by
    unfold_payloads
    try rw [pay2_eq]
    pointwise
  rw [e]
  try simp only [max_le_iff, and_assoc]
  change mag x a ⟨2176 + l.val, by omega⟩ ≤ M ↔ _
  constructor
  · intro h17
    intro j p1 p2
    interval_cases j
    · exact h17
  · rintro h
    exact h 17 (by norm_num) (by norm_num)

/-- Lane tiles 18 to 36 of the chain: it is at most `M` where every one of them is. -/
theorem pay5_le (x : FVec Ideal S32x9216 .bf16) (y z : FVec Ideal S32x128 .bf16) (a : Fin 32) (l : Fin 128) (M : EReal) :
    k1_pay5 (F := Ideal) x y z (ix2 a l) ≤ M ↔ y (ix2 a l) ≤ M ∧ z (ix2 a l) ≤ M ∧ ∀ j, 18 ≤ j → (hj : j < 37) → mag x a ⟨128 * j + l.val, by omega⟩ ≤ M := by
  have e : k1_pay5 (F := Ideal) x y z (ix2 a l) = max (max (max (max (max (max (max (max (max (max (max (max (max (max (max (max (max (max (max (max (y (ix2 a l)) (z (ix2 a l))) (FloatOps.absf (F := Ideal) (φ := .bf16) (x (ix2 a ⟨2304 + l.val, by omega⟩)))) (FloatOps.absf (F := Ideal) (φ := .bf16) (x (ix2 a ⟨2432 + l.val, by omega⟩)))) (FloatOps.absf (F := Ideal) (φ := .bf16) (x (ix2 a ⟨2560 + l.val, by omega⟩)))) (FloatOps.absf (F := Ideal) (φ := .bf16) (x (ix2 a ⟨2688 + l.val, by omega⟩)))) (FloatOps.absf (F := Ideal) (φ := .bf16) (x (ix2 a ⟨2816 + l.val, by omega⟩)))) (FloatOps.absf (F := Ideal) (φ := .bf16) (x (ix2 a ⟨2944 + l.val, by omega⟩)))) (FloatOps.absf (F := Ideal) (φ := .bf16) (x (ix2 a ⟨3072 + l.val, by omega⟩)))) (FloatOps.absf (F := Ideal) (φ := .bf16) (x (ix2 a ⟨3200 + l.val, by omega⟩)))) (FloatOps.absf (F := Ideal) (φ := .bf16) (x (ix2 a ⟨3328 + l.val, by omega⟩)))) (FloatOps.absf (F := Ideal) (φ := .bf16) (x (ix2 a ⟨3456 + l.val, by omega⟩)))) (FloatOps.absf (F := Ideal) (φ := .bf16) (x (ix2 a ⟨3584 + l.val, by omega⟩)))) (FloatOps.absf (F := Ideal) (φ := .bf16) (x (ix2 a ⟨3712 + l.val, by omega⟩)))) (FloatOps.absf (F := Ideal) (φ := .bf16) (x (ix2 a ⟨3840 + l.val, by omega⟩)))) (FloatOps.absf (F := Ideal) (φ := .bf16) (x (ix2 a ⟨3968 + l.val, by omega⟩)))) (FloatOps.absf (F := Ideal) (φ := .bf16) (x (ix2 a ⟨4096 + l.val, by omega⟩)))) (FloatOps.absf (F := Ideal) (φ := .bf16) (x (ix2 a ⟨4224 + l.val, by omega⟩)))) (FloatOps.absf (F := Ideal) (φ := .bf16) (x (ix2 a ⟨4352 + l.val, by omega⟩)))) (FloatOps.absf (F := Ideal) (φ := .bf16) (x (ix2 a ⟨4480 + l.val, by omega⟩)))) (FloatOps.absf (F := Ideal) (φ := .bf16) (x (ix2 a ⟨4608 + l.val, by omega⟩))) := by
    unfold_payloads
    skip
    pointwise
  rw [e]
  try simp only [max_le_iff, and_assoc]
  change y (ix2 a l) ≤ M ∧ z (ix2 a l) ≤ M ∧ mag x a ⟨2304 + l.val, by omega⟩ ≤ M ∧ mag x a ⟨2432 + l.val, by omega⟩ ≤ M ∧ mag x a ⟨2560 + l.val, by omega⟩ ≤ M ∧ mag x a ⟨2688 + l.val, by omega⟩ ≤ M ∧ mag x a ⟨2816 + l.val, by omega⟩ ≤ M ∧ mag x a ⟨2944 + l.val, by omega⟩ ≤ M ∧ mag x a ⟨3072 + l.val, by omega⟩ ≤ M ∧ mag x a ⟨3200 + l.val, by omega⟩ ≤ M ∧ mag x a ⟨3328 + l.val, by omega⟩ ≤ M ∧ mag x a ⟨3456 + l.val, by omega⟩ ≤ M ∧ mag x a ⟨3584 + l.val, by omega⟩ ≤ M ∧ mag x a ⟨3712 + l.val, by omega⟩ ≤ M ∧ mag x a ⟨3840 + l.val, by omega⟩ ≤ M ∧ mag x a ⟨3968 + l.val, by omega⟩ ≤ M ∧ mag x a ⟨4096 + l.val, by omega⟩ ≤ M ∧ mag x a ⟨4224 + l.val, by omega⟩ ≤ M ∧ mag x a ⟨4352 + l.val, by omega⟩ ≤ M ∧ mag x a ⟨4480 + l.val, by omega⟩ ≤ M ∧ mag x a ⟨4608 + l.val, by omega⟩ ≤ M ↔ _
  constructor
  · rintro ⟨hy, hz, h18, h19, h20, h21, h22, h23, h24, h25, h26, h27, h28, h29, h30, h31, h32, h33, h34, h35, h36⟩
    refine ⟨hy, hz, fun j p1 p2 => ?_⟩
    interval_cases j
    · exact h18
    · exact h19
    · exact h20
    · exact h21
    · exact h22
    · exact h23
    · exact h24
    · exact h25
    · exact h26
    · exact h27
    · exact h28
    · exact h29
    · exact h30
    · exact h31
    · exact h32
    · exact h33
    · exact h34
    · exact h35
    · exact h36
  · rintro ⟨hy, hz, h⟩
    exact ⟨hy, hz, h 18 (by norm_num) (by norm_num), h 19 (by norm_num) (by norm_num), h 20 (by norm_num) (by norm_num), h 21 (by norm_num) (by norm_num), h 22 (by norm_num) (by norm_num), h 23 (by norm_num) (by norm_num), h 24 (by norm_num) (by norm_num), h 25 (by norm_num) (by norm_num), h 26 (by norm_num) (by norm_num), h 27 (by norm_num) (by norm_num), h 28 (by norm_num) (by norm_num), h 29 (by norm_num) (by norm_num), h 30 (by norm_num) (by norm_num), h 31 (by norm_num) (by norm_num), h 32 (by norm_num) (by norm_num), h 33 (by norm_num) (by norm_num), h 34 (by norm_num) (by norm_num), h 35 (by norm_num) (by norm_num), h 36 (by norm_num) (by norm_num)⟩

/-- Lane tiles 37 to 37 of the chain: it is at most `M` where every one of them is. -/
theorem pay6_le (x : FVec Ideal S32x9216 .bf16) (a : Fin 32) (l : Fin 128) (M : EReal) :
    k1_pay6 (F := Ideal) x (ix2 a l) ≤ M ↔ ∀ j, 37 ≤ j → (hj : j < 38) → mag x a ⟨128 * j + l.val, by omega⟩ ≤ M := by
  have e : k1_pay6 (F := Ideal) x (ix2 a l) = FloatOps.absf (F := Ideal) (φ := .bf16) (x (ix2 a ⟨4736 + l.val, by omega⟩)) := by
    unfold_payloads
    try rw [pay2_eq]
    pointwise
  rw [e]
  try simp only [max_le_iff, and_assoc]
  change mag x a ⟨4736 + l.val, by omega⟩ ≤ M ↔ _
  constructor
  · intro h37
    intro j p1 p2
    interval_cases j
    · exact h37
  · rintro h
    exact h 37 (by norm_num) (by norm_num)

/-- Lane tiles 38 to 56 of the chain: it is at most `M` where every one of them is. -/
theorem pay7_le (x : FVec Ideal S32x9216 .bf16) (y z : FVec Ideal S32x128 .bf16) (a : Fin 32) (l : Fin 128) (M : EReal) :
    k1_pay7 (F := Ideal) x y z (ix2 a l) ≤ M ↔ y (ix2 a l) ≤ M ∧ z (ix2 a l) ≤ M ∧ ∀ j, 38 ≤ j → (hj : j < 57) → mag x a ⟨128 * j + l.val, by omega⟩ ≤ M := by
  have e : k1_pay7 (F := Ideal) x y z (ix2 a l) = max (max (max (max (max (max (max (max (max (max (max (max (max (max (max (max (max (max (max (max (y (ix2 a l)) (z (ix2 a l))) (FloatOps.absf (F := Ideal) (φ := .bf16) (x (ix2 a ⟨4864 + l.val, by omega⟩)))) (FloatOps.absf (F := Ideal) (φ := .bf16) (x (ix2 a ⟨4992 + l.val, by omega⟩)))) (FloatOps.absf (F := Ideal) (φ := .bf16) (x (ix2 a ⟨5120 + l.val, by omega⟩)))) (FloatOps.absf (F := Ideal) (φ := .bf16) (x (ix2 a ⟨5248 + l.val, by omega⟩)))) (FloatOps.absf (F := Ideal) (φ := .bf16) (x (ix2 a ⟨5376 + l.val, by omega⟩)))) (FloatOps.absf (F := Ideal) (φ := .bf16) (x (ix2 a ⟨5504 + l.val, by omega⟩)))) (FloatOps.absf (F := Ideal) (φ := .bf16) (x (ix2 a ⟨5632 + l.val, by omega⟩)))) (FloatOps.absf (F := Ideal) (φ := .bf16) (x (ix2 a ⟨5760 + l.val, by omega⟩)))) (FloatOps.absf (F := Ideal) (φ := .bf16) (x (ix2 a ⟨5888 + l.val, by omega⟩)))) (FloatOps.absf (F := Ideal) (φ := .bf16) (x (ix2 a ⟨6016 + l.val, by omega⟩)))) (FloatOps.absf (F := Ideal) (φ := .bf16) (x (ix2 a ⟨6144 + l.val, by omega⟩)))) (FloatOps.absf (F := Ideal) (φ := .bf16) (x (ix2 a ⟨6272 + l.val, by omega⟩)))) (FloatOps.absf (F := Ideal) (φ := .bf16) (x (ix2 a ⟨6400 + l.val, by omega⟩)))) (FloatOps.absf (F := Ideal) (φ := .bf16) (x (ix2 a ⟨6528 + l.val, by omega⟩)))) (FloatOps.absf (F := Ideal) (φ := .bf16) (x (ix2 a ⟨6656 + l.val, by omega⟩)))) (FloatOps.absf (F := Ideal) (φ := .bf16) (x (ix2 a ⟨6784 + l.val, by omega⟩)))) (FloatOps.absf (F := Ideal) (φ := .bf16) (x (ix2 a ⟨6912 + l.val, by omega⟩)))) (FloatOps.absf (F := Ideal) (φ := .bf16) (x (ix2 a ⟨7040 + l.val, by omega⟩)))) (FloatOps.absf (F := Ideal) (φ := .bf16) (x (ix2 a ⟨7168 + l.val, by omega⟩))) := by
    unfold_payloads
    skip
    pointwise
  rw [e]
  try simp only [max_le_iff, and_assoc]
  change y (ix2 a l) ≤ M ∧ z (ix2 a l) ≤ M ∧ mag x a ⟨4864 + l.val, by omega⟩ ≤ M ∧ mag x a ⟨4992 + l.val, by omega⟩ ≤ M ∧ mag x a ⟨5120 + l.val, by omega⟩ ≤ M ∧ mag x a ⟨5248 + l.val, by omega⟩ ≤ M ∧ mag x a ⟨5376 + l.val, by omega⟩ ≤ M ∧ mag x a ⟨5504 + l.val, by omega⟩ ≤ M ∧ mag x a ⟨5632 + l.val, by omega⟩ ≤ M ∧ mag x a ⟨5760 + l.val, by omega⟩ ≤ M ∧ mag x a ⟨5888 + l.val, by omega⟩ ≤ M ∧ mag x a ⟨6016 + l.val, by omega⟩ ≤ M ∧ mag x a ⟨6144 + l.val, by omega⟩ ≤ M ∧ mag x a ⟨6272 + l.val, by omega⟩ ≤ M ∧ mag x a ⟨6400 + l.val, by omega⟩ ≤ M ∧ mag x a ⟨6528 + l.val, by omega⟩ ≤ M ∧ mag x a ⟨6656 + l.val, by omega⟩ ≤ M ∧ mag x a ⟨6784 + l.val, by omega⟩ ≤ M ∧ mag x a ⟨6912 + l.val, by omega⟩ ≤ M ∧ mag x a ⟨7040 + l.val, by omega⟩ ≤ M ∧ mag x a ⟨7168 + l.val, by omega⟩ ≤ M ↔ _
  constructor
  · rintro ⟨hy, hz, h38, h39, h40, h41, h42, h43, h44, h45, h46, h47, h48, h49, h50, h51, h52, h53, h54, h55, h56⟩
    refine ⟨hy, hz, fun j p1 p2 => ?_⟩
    interval_cases j
    · exact h38
    · exact h39
    · exact h40
    · exact h41
    · exact h42
    · exact h43
    · exact h44
    · exact h45
    · exact h46
    · exact h47
    · exact h48
    · exact h49
    · exact h50
    · exact h51
    · exact h52
    · exact h53
    · exact h54
    · exact h55
    · exact h56
  · rintro ⟨hy, hz, h⟩
    exact ⟨hy, hz, h 38 (by norm_num) (by norm_num), h 39 (by norm_num) (by norm_num), h 40 (by norm_num) (by norm_num), h 41 (by norm_num) (by norm_num), h 42 (by norm_num) (by norm_num), h 43 (by norm_num) (by norm_num), h 44 (by norm_num) (by norm_num), h 45 (by norm_num) (by norm_num), h 46 (by norm_num) (by norm_num), h 47 (by norm_num) (by norm_num), h 48 (by norm_num) (by norm_num), h 49 (by norm_num) (by norm_num), h 50 (by norm_num) (by norm_num), h 51 (by norm_num) (by norm_num), h 52 (by norm_num) (by norm_num), h 53 (by norm_num) (by norm_num), h 54 (by norm_num) (by norm_num), h 55 (by norm_num) (by norm_num), h 56 (by norm_num) (by norm_num)⟩

/-- Lane tiles 57 to 57 of the chain: it is at most `M` where every one of them is. -/
theorem pay8_le (x : FVec Ideal S32x9216 .bf16) (a : Fin 32) (l : Fin 128) (M : EReal) :
    k1_pay8 (F := Ideal) x (ix2 a l) ≤ M ↔ ∀ j, 57 ≤ j → (hj : j < 58) → mag x a ⟨128 * j + l.val, by omega⟩ ≤ M := by
  have e : k1_pay8 (F := Ideal) x (ix2 a l) = FloatOps.absf (F := Ideal) (φ := .bf16) (x (ix2 a ⟨7296 + l.val, by omega⟩)) := by
    unfold_payloads
    try rw [pay2_eq]
    pointwise
  rw [e]
  try simp only [max_le_iff, and_assoc]
  change mag x a ⟨7296 + l.val, by omega⟩ ≤ M ↔ _
  constructor
  · intro h57
    intro j p1 p2
    interval_cases j
    · exact h57
  · rintro h
    exact h 57 (by norm_num) (by norm_num)

/-- The last lane tiles, the maximum over the lanes, and the constant factor. -/
theorem pay9_eq (x : FVec Ideal S32x9216 .bf16) (y z : FVec Ideal S32x128 .bf16) (a : Fin 32) :
    ∃ A : EReal, k1_pay9 (F := Ideal) x y z (ix2 a 0) = A * Ideal.ofBits .f32 0x37924925#32 ∧
      ∀ M : EReal, A ≤ M ↔ ∀ l : Fin 128, y (ix2 a l) ≤ M ∧ z (ix2 a l) ≤ M ∧ ∀ j, 58 ≤ j → (hj : j < 72) → mag x a ⟨128 * j + l.val, by omega⟩ ≤ M := by
  refine ⟨Finset.fold max (Ideal.ofBits .f32 0xFF800000#32) (fun l : Fin 128 => max (max (max (max (max (max (max (max (max (max (max (max (max (max (max (y (ix2 a l)) (z (ix2 a l))) (FloatOps.absf (F := Ideal) (φ := .bf16) (x (ix2 a ⟨7424 + l.val, by omega⟩)))) (FloatOps.absf (F := Ideal) (φ := .bf16) (x (ix2 a ⟨7552 + l.val, by omega⟩)))) (FloatOps.absf (F := Ideal) (φ := .bf16) (x (ix2 a ⟨7680 + l.val, by omega⟩)))) (FloatOps.absf (F := Ideal) (φ := .bf16) (x (ix2 a ⟨7808 + l.val, by omega⟩)))) (FloatOps.absf (F := Ideal) (φ := .bf16) (x (ix2 a ⟨7936 + l.val, by omega⟩)))) (FloatOps.absf (F := Ideal) (φ := .bf16) (x (ix2 a ⟨8064 + l.val, by omega⟩)))) (FloatOps.absf (F := Ideal) (φ := .bf16) (x (ix2 a ⟨8192 + l.val, by omega⟩)))) (FloatOps.absf (F := Ideal) (φ := .bf16) (x (ix2 a ⟨8320 + l.val, by omega⟩)))) (FloatOps.absf (F := Ideal) (φ := .bf16) (x (ix2 a ⟨8448 + l.val, by omega⟩)))) (FloatOps.absf (F := Ideal) (φ := .bf16) (x (ix2 a ⟨8576 + l.val, by omega⟩)))) (FloatOps.absf (F := Ideal) (φ := .bf16) (x (ix2 a ⟨8704 + l.val, by omega⟩)))) (FloatOps.absf (F := Ideal) (φ := .bf16) (x (ix2 a ⟨8832 + l.val, by omega⟩)))) (FloatOps.absf (F := Ideal) (φ := .bf16) (x (ix2 a ⟨8960 + l.val, by omega⟩)))) (FloatOps.absf (F := Ideal) (φ := .bf16) (x (ix2 a ⟨9088 + l.val, by omega⟩)))) Finset.univ, ?_, fun M => ?_⟩
  · unfold_payloads
    pointwise
  · rw [bot_f32, Finset.fold_max_le]
    constructor
    · intro h l
      have h' := h.2 l (Finset.mem_univ _)
      simp only [max_le_iff, and_assoc] at h'
      change y (ix2 a l) ≤ M ∧ z (ix2 a l) ≤ M ∧ mag x a ⟨7424 + l.val, by omega⟩ ≤ M ∧ mag x a ⟨7552 + l.val, by omega⟩ ≤ M ∧ mag x a ⟨7680 + l.val, by omega⟩ ≤ M ∧ mag x a ⟨7808 + l.val, by omega⟩ ≤ M ∧ mag x a ⟨7936 + l.val, by omega⟩ ≤ M ∧ mag x a ⟨8064 + l.val, by omega⟩ ≤ M ∧ mag x a ⟨8192 + l.val, by omega⟩ ≤ M ∧ mag x a ⟨8320 + l.val, by omega⟩ ≤ M ∧ mag x a ⟨8448 + l.val, by omega⟩ ≤ M ∧ mag x a ⟨8576 + l.val, by omega⟩ ≤ M ∧ mag x a ⟨8704 + l.val, by omega⟩ ≤ M ∧ mag x a ⟨8832 + l.val, by omega⟩ ≤ M ∧ mag x a ⟨8960 + l.val, by omega⟩ ≤ M ∧ mag x a ⟨9088 + l.val, by omega⟩ ≤ M at h'
      obtain ⟨hy, hz, h58, h59, h60, h61, h62, h63, h64, h65, h66, h67, h68, h69, h70, h71⟩ := h'
      refine ⟨hy, hz, fun j p1 p2 => ?_⟩
      interval_cases j
      · exact h58
      · exact h59
      · exact h60
      · exact h61
      · exact h62
      · exact h63
      · exact h64
      · exact h65
      · exact h66
      · exact h67
      · exact h68
      · exact h69
      · exact h70
      · exact h71
    · intro h
      refine ⟨bot_le, fun l _ => ?_⟩
      obtain ⟨hy, hz, h⟩ := h l
      try simp only [max_le_iff, and_assoc]
      exact ⟨hy, hz, h 58 (by norm_num) (by norm_num), h 59 (by norm_num) (by norm_num), h 60 (by norm_num) (by norm_num), h 61 (by norm_num) (by norm_num), h 62 (by norm_num) (by norm_num), h 63 (by norm_num) (by norm_num), h 64 (by norm_num) (by norm_num), h 65 (by norm_num) (by norm_num), h 66 (by norm_num) (by norm_num), h 67 (by norm_num) (by norm_num), h 68 (by norm_num) (by norm_num), h 69 (by norm_num) (by norm_num), h 70 (by norm_num) (by norm_num), h 71 (by norm_num) (by norm_num)⟩

/-- The ratios of a block of 32 rows, as the kernel computes them. -/
noncomputable abbrev rowR (B : Vec Ideal S32x9216 .bf16) : FVec Ideal S32x1 .f32 :=
  k1_pay9 (F := Ideal) (k1_pay2 B) (k1_pay7 (k1_pay2 B) (k1_pay5 (k1_pay2 B) (k1_pay3 B) (k1_pay4 B)) (k1_pay6 (k1_pay2 B))) (k1_pay8 (k1_pay2 B))

/-- The chain of maxima is the ratio of the row. -/
theorem rowR_eq (B : Vec Ideal S32x9216 .bf16) (a : Fin 32) : rowR B (ix2 a 0) = ratio fun n => B (ix2 a n) := by
  obtain ⟨A, hA, hM⟩ := pay9_eq (k1_pay2 B) (k1_pay7 (k1_pay2 B) (k1_pay5 (k1_pay2 B) (k1_pay3 B) (k1_pay4 B)) (k1_pay6 (k1_pay2 B))) (k1_pay8 (k1_pay2 B)) a
  rw [show rowR B (ix2 a 0) = _ from hA]
  unfold ratio
  refine congrArg (· * _) ?_
  refine eq_of_forall_ge_iff fun M => ?_
  rw [hM M]
  unfold amax
  rw [Finset.sup_le_iff]
  constructor
  · intro h n _
    obtain ⟨h7, h8, h9⟩ := h ⟨n.val % 128, Nat.mod_lt _ (by norm_num)⟩
    rw [pay7_le] at h7
    obtain ⟨h5, h6, h7⟩ := h7
    rw [pay5_le] at h5
    obtain ⟨h3, h4, h5⟩ := h5
    rw [pay3_le] at h3
    rw [pay4_le] at h4
    rw [pay6_le] at h6
    rw [pay8_le] at h8
    rw [pay2_eq] at h5 h6 h7 h8 h9
    have key : ∀ j, (hj : j < 72) → mag B a ⟨128 * j + n.val % 128, by omega⟩ ≤ M := fun j hj => by
      rcases Nat.lt_or_ge j 17 with h | h
      · exact h3 j (by omega) h
      rcases Nat.lt_or_ge j 18 with h' | h'
      · exact h4 j h h'
      rcases Nat.lt_or_ge j 37 with h'' | h''
      · exact h5 j h' h''
      rcases Nat.lt_or_ge j 38 with h' | h'
      · exact h6 j h'' h'
      rcases Nat.lt_or_ge j 57 with h'' | h''
      · exact h7 j h' h''
      rcases Nat.lt_or_ge j 58 with h' | h'
      · exact h8 j h'' h'
      · exact h9 j h' hj
    have hn : (⟨128 * (n.val / 128) + n.val % 128, by omega⟩ : Fin 9216) = n := Fin.ext (Nat.div_add_mod _ _)
    have := key (n.val / 128) (by omega)
    rw [hn] at this
    exact this
  · intro h l
    rw [pay7_le, pay5_le, pay3_le, pay4_le, pay6_le, pay8_le, pay2_eq]
    exact ⟨⟨⟨fun j _ _ => h _ (Finset.mem_univ _), fun j _ _ => h _ (Finset.mem_univ _), fun j _ _ => h _ (Finset.mem_univ _)⟩,
      fun j _ _ => h _ (Finset.mem_univ _), fun j _ _ => h _ (Finset.mem_univ _)⟩, fun j _ _ => h _ (Finset.mem_univ _), fun j _ _ => h _ (Finset.mem_univ _)⟩

end Cert.KernelIdeal.Val
-- ==== Proof.BlockScale.lean ====
module

public import proofs.«01_k».proof.Proof.RowScale

/-!
The scale, its inverse and the codes of one block of 32 rows, from the row ratios.
-/

@[expose] public section

set_option maxRecDepth 16384
open Idealize.ShloMosaic Idealize.ShloMosaic.TcCoe Idealize.SL.Sem
open Cert.KernelIdeal Cert.KernelIdeal.Gen Cert.Quant

namespace Cert.KernelIdeal.Val

/-- The search's bits 64, 32, 16 and 8, after the comparison `z` for bit 128. -/
theorem pay12_eq (r : FVec Ideal S32x1 .f32) (w : IVec S32x1 32) (z : IVec S32x1 1) (a : Fin 32) :
    k1_pay12 (F := Ideal) r w z (ix2 a 0) = bstep (r (ix2 a 0)) 8#32 (bstep (r (ix2 a 0)) 16#32 (bstep (r (ix2 a 0)) 32#32 (bstep (r (ix2 a 0)) 64#32
      (Scalar.select (z (ix2 a 0)) (w (ix2 a 0)) (w (ix2 a 0) + 128#32))))) := by
  unfold_payloads
  pointwise
  rfl

/-- The search's comparison for bit 4. -/
theorem pay13_eq (r : FVec Ideal S32x1 .f32) (w : IVec S32x1 32) (z : IVec S32x1 1) (a : Fin 32) :
    k1_pay13 (F := Ideal) r w z (ix2 a 0) = BitVec.ofBool (decide (r (ix2 a 0) < fl (k1_pay12 (F := Ideal) r w z (ix2 a 0) + 4#32))) := by
  unfold k1_pay13
  pointwise
  rfl

/-- The search's bits 2 and 1, and the exponent of the field `x` found: zero where the field is zero. -/
theorem pay14_eq (r : FVec Ideal S32x1 .f32) (w : IVec S32x1 32) (z : IVec S32x1 1) (a : Fin 32) (x : BitVec 32)
    (hx : bstep (r (ix2 a 0)) 1#32 (bstep (r (ix2 a 0)) 2#32 (Scalar.select (z (ix2 a 0)) (w (ix2 a 0)) (w (ix2 a 0) + 4#32))) = x) :
    k1_pay14 (F := Ideal) r w z (ix2 a 0) = (if x = 0#32 then 126#32 else x) - 126#32 := by
  have e : k1_pay14 (F := Ideal) r w z (ix2 a 0) = Scalar.select (IntOp.cmpi .eq x 0#32) 126#32 x - 126#32 := by
    subst hx
    unfold_payloads
    pointwise
    rfl
  rw [e]
  refine congrArg (· - _) ?_
  by_cases h : x = 0#32
  · subst h; rfl
  · have hb : (x == 0#32) = false := beq_eq_false_iff_ne.mpr h
    change (if BitVec.ofBool (x == 0#32) = 1#1 then _ else _) = _
    rw [hb]
    exact (if_neg (by decide)).trans (if_neg h).symm

/-- The search's first comparison, for bit 128. -/
theorem pay11_eq (x : FVec Ideal S32x9216 .bf16) (y z : FVec Ideal S32x128 .bf16) (a : Fin 32) :
    k1_pay11 (F := Ideal) x y z (ix2 a 0) = BitVec.ofBool (decide (k1_pay9 (F := Ideal) x y z (ix2 a 0) < fl (0#32 + 128#32))) := by
  unfold k1_pay11
  pointwise
  rfl

/-- The search starts from zero. -/
theorem pay10_eq (a : Fin 32) : k1_pay10 (ix2 a 0) = 0#32 := by
  unfold_payloads
  pointwise

/-- Selecting by a comparison's bit is a case distinction. -/
theorem select_ofBool (r : EReal) (f b : BitVec 32) :
    Scalar.select (BitVec.ofBool (decide (r < fl (f + b)))) f (f + b) = bstep r b f := by
  unfold bstep
  by_cases h : r < fl (f + b) <;> simp [h, Scalar.select]

/-- The exponent word of row `a`, found by the bit search. -/
theorem kexp_eq (r : FVec Ideal S32x1 .f32) (z : IVec S32x1 1) (a : Fin 32)
    (hz : z (ix2 a 0) = BitVec.ofBool (decide (r (ix2 a 0) < fl (0#32 + 128#32)))) :
    k1_pay14 (F := Ideal) r (k1_pay12 (F := Ideal) r k1_pay10 z) (k1_pay13 (F := Ideal) r k1_pay10 z) (ix2 a 0) = kexp (r (ix2 a 0)) := by
  rw [pay14_eq _ _ _ _ _ rfl, pay13_eq, select_ofBool, pay12_eq, hz, pay10_eq, select_ofBool]
  rfl

/-- The bit search's first comparison. -/
noncomputable abbrev bit7 (B : Vec Ideal S32x9216 .bf16) : IVec S32x1 1 :=
  k1_pay11 (F := Ideal) (k1_pay2 B) (k1_pay7 (k1_pay2 B) (k1_pay5 (k1_pay2 B) (k1_pay3 B) (k1_pay4 B)) (k1_pay6 (k1_pay2 B))) (k1_pay8 (k1_pay2 B))

/-- The scales stored for a block of 32 rows. -/
noncomputable abbrev sclV (B : Vec Ideal S32x9216 .bf16) : FVec Ideal S32x128 .f32 :=
  k1_pay15 (F := Ideal) (rowR B) (k1_pay12 (F := Ideal) (rowR B) k1_pay10 (bit7 B)) (k1_pay13 (F := Ideal) (rowR B) k1_pay10 (bit7 B))

/-- The inverse scales of a block of 32 rows. -/
noncomputable abbrev invV (B : Vec Ideal S32x9216 .bf16) : FVec Ideal S32x1 .f32 :=
  k1_pay16 (F := Ideal) (rowR B) (k1_pay12 (F := Ideal) (rowR B) k1_pay10 (bit7 B)) (k1_pay13 (F := Ideal) (rowR B) k1_pay10 (bit7 B))

/-- The scale that is stored for a row: two to the exponent found, in every lane. -/
theorem pay15_eq (r : FVec Ideal S32x1 .f32) (w : IVec S32x1 32) (z : IVec S32x1 1) (a : Fin 32) (l : Fin 128) :
    k1_pay15 (F := Ideal) r w z (ix2 a l) = fl (k1_pay14 (F := Ideal) r w z (ix2 a 0) + 127#32) := by
  unfold k1_pay15
  pointwise
  rfl

/-- The inverse scale of a row. -/
theorem pay16_eq (r : FVec Ideal S32x1 .f32) (w : IVec S32x1 32) (z : IVec S32x1 1) (a : Fin 32) :
    k1_pay16 (F := Ideal) r w z (ix2 a 0) = fl (127#32 - k1_pay14 (F := Ideal) r w z (ix2 a 0)) := by
  unfold k1_pay16
  pointwise
  rfl

/-- Every lane of row `a` of the stored scales is the scale of the row. -/
theorem sclV_eq (B : Vec Ideal S32x9216 .bf16) (a : Fin 32) (l : Fin 128)
    (h : ratio (fun n => B (ix2 a n)) < (((2 : ℝ) ^ (126 : ℤ) : ℝ) : EReal)) : sclV B (ix2 a l) = scaleOf fun n => B (ix2 a n) := by
  rw [sclV, pay15_eq, kexp_eq _ _ _ (pay11_eq _ _ _ _)]
  change fl (kexp (rowR B (ix2 a 0)) + 127#32) = _
  rw [rowR_eq]
  exact (factors _ (ratio_nonneg _) h).1

/-- The inverse scale of row `a`. -/
theorem invV_eq (B : Vec Ideal S32x9216 .bf16) (a : Fin 32)
    (h : ratio (fun n => B (ix2 a n)) < (((2 : ℝ) ^ (126 : ℤ) : ℝ) : EReal)) : invV B (ix2 a 0) = invOf fun n => B (ix2 a n) := by
  rw [invV, pay16_eq, kexp_eq _ _ _ (pay11_eq _ _ _ _)]
  change fl (127#32 - kexp (rowR B (ix2 a 0))) = _
  rw [rowR_eq]
  exact (factors _ (ratio_nonneg _) h).2

end Cert.KernelIdeal.Val
-- ==== Proof.Trip.lean ====
module

public import proofs.«01_k».proof.Proof.BlockScale

@[expose] public section

set_option maxRecDepth 16384
open Idealize.ShloMosaic Idealize.ShloMosaic.TcCoe Idealize.SL.Sem
open Idealize.ShloMosaic.Pipeline (Dat)
namespace Cert.KernelIdeal.Val
open Cert.KernelIdeal Cert.KernelIdeal.Gen Cert.Quant

/-- The row of the whole block that row `a` of trip `k` is. -/
theorem row_lt (k : Fin k1_t1_loop.trips) (a : Fin 32) : 32 * k.val + a.val < 256 := by
  have h : k.val < 8 := k.isLt
  have := a.isLt
  omega

/-- Trip `k` starts at row `32 k`. -/
theorem row_off (k : Fin k1_t1_loop.trips) :
    (BitVec.toNat (Scalar.indexCast (Scalar.muli (Scf.iv 0#32 1#32 k.val) 32#32))) = 32 * k.val :=
  (by decide : ∀ k : Fin 8, (BitVec.toNat (Scalar.indexCast (Scalar.muli (Scf.iv 0#32 1#32 k.val) 32#32))) = 32 * k.val) k

/-- The codes a block of 256 rows stands for. -/
noncomputable def codes (X : S256x9216.Idx → EReal) : S256x9216.Idx → EReal := fun y => codeOf (fun n => X (ix2 (y 0) n)) (y 1)

/-- The scales a block of 256 rows stands for, once per lane. -/
noncomputable def scales (X : S256x9216.Idx → EReal) : S256x128.Idx → EReal := fun y => scaleOf (fun n => X (ix2 (y 0) n))

/-- The inverse scale in every lane. -/
theorem pay17_eq (r : FVec Ideal S32x1 .f32) (a : Fin 32) (l : Fin 128) : k1_pay17 (F := Ideal) r (ix2 a l) = r (ix2 a 0) := by
  unfold k1_pay17
  pointwise

variable (c : Dev nD) (i : grid1.Coords) (arg1 : Memref sig .tc .vmem S256x2304 .bf16) (harg1 : arg1.IsWhole) (arg2 : Memref sig .tc .vmem S256x9216 .bf16) (harg2 : arg2.IsWhole) (arg3 : Memref sig .tc .vmem S9216x2304 .bf16) (harg3 : arg3.IsWhole) (arg4 : Memref sig .tc .vmem S16x9216 .bf16) (harg4 : arg4.IsWhole) (arg5 : Memref sig .tc .vmem S16x2304 .bf16) (harg5 : arg5.IsWhole) (arg6 : Memref sig .tc .vmem S256x2304 .bf16) (harg6 : arg6.IsWhole) (arg7 : Memref sig .tc .vmem S16x2304 .f32) (harg7 : arg7.IsWhole) (arg8 : Memref sig .tc .vmem S16x9216 .f32) (harg8 : arg8.IsWhole) (arg9 : Memref sig .tc .vmem S256x8 .bf16) (harg9 : arg9.IsWhole) (arg10 : Memref sig .tc .vmem S256x8 .bf16) (harg10 : arg10.IsWhole) (arg11 : Memref sig .tc .vmem S256x9216 .fp8e5m2) (harg11 : arg11.IsWhole) (arg12 : Memref sig .tc .vmem S1x1x256 .f32) (harg12 : arg12.IsWhole) (arg13 : Memref sig .tc .vmem S256x128 .f32) (harg13 : arg13.IsWhole)

/-- A load of 32 rows of the block reads those rows. -/
theorem load_rows (X : BufTy.Contents (Elt Ideal) arg2.view.ty) (k : Fin k1_t1_loop.trips) (off : Fin S256x9216.rank → ℕ)
    (j0 w : ℕ) (hoff : off = ![32 * k.val, j0]) (inb : ∀ d, off d + ![32, w] d ≤ S256x9216.size d) (a : Fin 32) (l : Fin w) (hl : j0 + l.val < 9216) :
    View.readAt (Elt Ideal) arg2.view (Rect.unit off ![32, w] inb).toLoadRect X (ix2 a l)
      = arg2.view.read (Elt Ideal) X (ix2 ⟨32 * k.val + a.val, row_lt k a⟩ ⟨j0 + l.val, hl⟩) := by
  subst hoff
  rw [View.readAt_apply]
  refine congrArg _ (funext fun d => Fin.ext ?_)
  match d with
  | ⟨0, _⟩ => simp [LoadRect.idx_apply]
  | ⟨1, _⟩ => simp [LoadRect.idx_apply]

/-- The loaded rows, as rows of the block. -/
theorem load_row (X : BufTy.Contents (Elt Ideal) arg2.view.ty) (k : Fin k1_t1_loop.trips) (off : Fin S256x9216.rank → ℕ)
    (hoff : off = ![32 * k.val, 0]) (inb : ∀ d, off d + ![32, 9216] d ≤ S256x9216.size d) (a : Fin 32) :
    (fun n => View.readAt (Elt Ideal) arg2.view (Rect.unit off ![32, 9216] inb).toLoadRect X (ix2 a n))
      = fun n => arg2.view.read (Elt Ideal) X (ix2 ⟨32 * k.val + a.val, row_lt k a⟩ n) := by
  funext n
  rw [load_rows arg2 X k _ 0 9216 hoff _ a n (by have := n.isLt; omega)]
  exact congrArg (fun z => arg2.view.read (Elt Ideal) X (ix2 _ z)) (Fin.ext (Nat.zero_add _))

/-- The 32 rows trip `k` loads. -/
noncomputable abbrev rowsOf (X : BufTy.Contents (Elt Ideal) arg2.view.ty) (k : Fin k1_t1_loop.trips) : Vec Ideal S32x9216 .bf16 :=
  View.readAt (Elt Ideal) arg2.view (Rect.unit (s := S256x9216) (k1_off1 k) S32x9216.size (k1_off1_inb k)).toLoadRect X

/-- The inverse scales of trip `k`'s rows. -/
theorem inv_trip (X : BufTy.Contents (Elt Ideal) arg2.view.ty) (k : Fin k1_t1_loop.trips)
    (h : ∀ r : Fin 256, ratio (fun n => arg2.view.read (Elt Ideal) X (ix2 r n)) < (((2 : ℝ) ^ (126 : ℤ) : ℝ) : EReal)) (a : Fin 32) :
    invV (rowsOf arg2 X k) (ix2 a 0) = invOf fun n => arg2.view.read (Elt Ideal) X (ix2 ⟨32 * k.val + a.val, row_lt k a⟩ n) := by
  have e : (fun n => rowsOf arg2 X k (ix2 a n)) = _ := load_row arg2 X k _ (congrArg (fun z => ![z, _]) (row_off k)) _ a
  rw [invV_eq _ a (e ▸ h _), e]

/-- The scales of trip `k`'s rows. -/
theorem scl_trip (X : BufTy.Contents (Elt Ideal) arg2.view.ty) (k : Fin k1_t1_loop.trips)
    (h : ∀ r : Fin 256, ratio (fun n => arg2.view.read (Elt Ideal) X (ix2 r n)) < (((2 : ℝ) ^ (126 : ℤ) : ℝ) : EReal)) (a : Fin 32) (l : Fin 128) :
    sclV (rowsOf arg2 X k) (ix2 a l) = scaleOf fun n => arg2.view.read (Elt Ideal) X (ix2 ⟨32 * k.val + a.val, row_lt k a⟩ n) := by
  have e : (fun n => rowsOf arg2 X k (ix2 a n)) = _ := load_row arg2 X k _ (congrArg (fun z => ![z, _]) (row_off k)) _ a
  rw [sclV_eq _ a l (e ▸ h _), e]

/-- One stored tile of codes is the tile of `codes` at the same place. -/
theorem code_piece (X : BufTy.Contents (Elt Ideal) arg2.view.ty) (k : Fin k1_t1_loop.trips) (inv : FVec Ideal S32x1 .f32)
    (hinv : ∀ a : Fin 32, inv (ix2 a 0) = invOf fun n => arg2.view.read (Elt Ideal) X (ix2 ⟨32 * k.val + a.val, row_lt k a⟩ n))
    (j0 : ℕ) (off : Fin S256x9216.rank → ℕ) (hoff : off = ![32 * k.val, j0]) (hj : j0 + 128 ≤ 9216)
    (inb : ∀ d, off d + ![32, 128] d ≤ S256x9216.size d) (P : S32x128.Idx → EReal)
    (hP : ∀ (a : Fin 32) (l : Fin 128), P (ix2 a l) = min (FloatOps.ofBits (F := Ideal) .bf16 0x4760#16) (max (FloatOps.ofBits (F := Ideal) .bf16 0xC760#16)
      (View.readAt (Elt Ideal) arg2.view (Rect.unit off ![32, 128] inb).toLoadRect X (ix2 a l) * inv (ix2 a 0))))
    (x : S32x128.Idx) : P x = codes (arg2.view.read (Elt Ideal) X) ((Rect.unit off ![32, 128] inb).emb x) := by
  obtain ⟨a, l, rfl⟩ : ∃ a l, x = ix2 a l := ⟨x 0, x 1, by funext d; match d with | ⟨0, _⟩ => rfl | ⟨1, _⟩ => rfl⟩
  rw [hP, load_rows arg2 X k off j0 128 hoff inb a l (by have := l.isLt; omega), hinv]
  subst hoff
  have e : (Rect.unit ![32 * k.val, j0] ![32, 128] inb).emb (ix2 a l) = (ix2 ⟨32 * k.val + a.val, row_lt k a⟩ ⟨j0 + l.val, by have := l.isLt; omega⟩ : S256x9216.Idx) := by
    funext d
    refine Fin.ext ?_
    rw [ValueKit.rect_emb_unit_val]
    match d with
    | ⟨0, _⟩ => rfl
    | ⟨1, _⟩ => rfl
  rw [e]
  exact congrArg₂ min hi_bf16 (congrArg₂ max lo_bf16 rfl)

set_option maxHeartbeats 4000000 in
/-- Every tile of codes trip `k` stores is the tile of `codes` at the same place. -/
theorem trip_codes (X : BufTy.Contents (Elt Ideal) arg2.view.ty) (k : Fin k1_t1_loop.trips)
    (h : ∀ r : Fin 256, ratio (fun n => arg2.view.read (Elt Ideal) X (ix2 r n)) < (((2 : ℝ) ^ (126 : ℤ) : ℝ) : EReal)) :
    ∀ p ∈ (trip_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X k).1, ∀ x : p.1.shape.Idx, p.2 x = codes (arg2.view.read (Elt Ideal) X) (p.1.emb x) := by
  unfold trip_k1_t1
  dsimp only
  sl_unfold_words
  generalize hI : k1_pay16 (F := Ideal) _ _ _ = inv
  have hinv : ∀ a : Fin 32, inv (ix2 a 0) = invOf fun n => arg2.view.read (Elt Ideal) X (ix2 ⟨32 * k.val + a.val, row_lt k a⟩ n) := by
    intro a
    rw [← hI]
    exact inv_trip arg2 X k h a
  clear hI
  simp only [List.forall_mem_cons]
  repeat' apply And.intro
  all_goals try exact List.forall_mem_nil _
  all_goals refine code_piece arg2 X k inv hinv _ _ (congrArg (fun z => ![z, _]) (row_off k)) (by decide) _ _ ?_
  all_goals intro a l
  all_goals unfold_payloads
  all_goals pointwise
  all_goals try rw [pay17_eq]
  all_goals try rfl

set_option maxHeartbeats 4000000 in
/-- The tile of scales trip `k` stores is the tile of `scales` at the same place. -/
theorem trip_scales (X : BufTy.Contents (Elt Ideal) arg2.view.ty) (k : Fin k1_t1_loop.trips)
    (h : ∀ r : Fin 256, ratio (fun n => arg2.view.read (Elt Ideal) X (ix2 r n)) < (((2 : ℝ) ^ (126 : ℤ) : ℝ) : EReal)) :
    ∀ p ∈ (trip_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X k).2.1, ∀ x : p.1.shape.Idx, p.2 x = scales (arg2.view.read (Elt Ideal) X) (p.1.emb x) := by
  have key : ∀ (off : Fin S256x128.rank → ℕ) (hoff : off = ![32 * k.val, 0]) (inb : ∀ d, off d + ![32, 128] d ≤ S256x128.size d) (x : S32x128.Idx),
      sclV (rowsOf arg2 X k) x = scales (arg2.view.read (Elt Ideal) X) ((Rect.unit off ![32, 128] inb).emb x) := by
    intro off hoff inb x
    obtain ⟨a, l, rfl⟩ : ∃ a l, x = ix2 a l := ⟨x 0, x 1, by funext d; match d with | ⟨0, _⟩ => rfl | ⟨1, _⟩ => rfl⟩
    rw [scl_trip arg2 X k h]
    subst hoff
    have e : (Rect.unit ![32 * k.val, 0] ![32, 128] inb).emb (ix2 a l) = (ix2 ⟨32 * k.val + a.val, row_lt k a⟩ l : S256x128.Idx) := by
      funext d
      refine Fin.ext ?_
      rw [ValueKit.rect_emb_unit_val]
      match d with
      | ⟨0, _⟩ => rfl
      | ⟨1, _⟩ => exact Nat.zero_add _
    rw [e]
    rfl
  unfold trip_k1_t1
  dsimp only
  sl_unfold_words
  simp only [List.forall_mem_cons]
  refine ⟨?_, List.forall_mem_nil _⟩
  exact key _ (congrArg (fun z => ![z, _]) (row_off k)) _

/-- Every tile stored by the first `n` trips is the tile of `codes` or `scales` at the same place. -/
theorem pieces (X : BufTy.Contents (Elt Ideal) arg2.view.ty)
    (h : ∀ r : Fin 256, ratio (fun n => arg2.view.read (Elt Ideal) X (ix2 r n)) < (((2 : ℝ) ^ (126 : ℤ) : ℝ) : EReal)) : ∀ n ≤ k1_t1_loop.trips,
    (∀ p ∈ (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X n).1, ∀ x : p.1.shape.Idx, p.2 x = codes (arg2.view.read (Elt Ideal) X) (p.1.emb x))
    ∧ ∀ p ∈ (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X n).2, ∀ x : p.1.shape.Idx, p.2 x = scales (arg2.view.read (Elt Ideal) X) (p.1.emb x)
  | 0, _ => ⟨fun p hp => absurd hp (List.not_mem_nil), fun p hp => absurd hp (List.not_mem_nil)⟩
  | n + 1, hn => by
    have ih := pieces X h n (Nat.le_of_succ_le hn)
    rw [pb_k1_t1_succ Variants.none c none i arg1 harg1 arg2 harg2 arg3 harg3 arg4 harg4 arg5 harg5 arg6 harg6 arg7 harg7 arg8 harg8 arg9 harg9 arg10 harg10 arg11 harg11 arg12 harg12 arg13 harg13 X ⟨n, hn⟩]
    refine ⟨fun p hp => ?_, fun p hp => ?_⟩
    · rcases List.mem_append.mp hp with hp | hp
      · exact trip_codes c i arg1 harg1 arg2 harg2 arg3 harg3 arg4 harg4 arg5 harg5 arg6 harg6 arg7 harg7 arg8 harg8 arg9 harg9 arg10 harg10 arg11 harg11 arg12 harg12 arg13 harg13 X ⟨n, hn⟩ h p hp
      · exact ih.1 p hp
    · rcases List.mem_append.mp hp with hp | hp
      · exact trip_scales c i arg1 harg1 arg2 harg2 arg3 harg3 arg4 harg4 arg5 harg5 arg6 harg6 arg7 harg7 arg8 harg8 arg9 harg9 arg10 harg10 arg11 harg11 arg12 harg12 arg13 harg13 X ⟨n, hn⟩ h p hp
      · exact ih.2 p hp

/-- The tiles of codes cover the block. -/
theorem cover_codes (X : BufTy.Contents (Elt Ideal) arg2.view.ty) (y : S256x9216.Idx) :
    ∃ p ∈ (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X k1_t1_loop.trips).1, y ∈ p.1.set :=
  View.cover_of_tiledL (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X k1_t1_loop.trips).1 S32x128.size (by sl_kernel_rfl) y

/-- The tiles of scales cover the block. -/
theorem cover_scales (X : BufTy.Contents (Elt Ideal) arg2.view.ty) (y : S256x128.Idx) :
    ∃ p ∈ (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X k1_t1_loop.trips).2, y ∈ p.1.set :=
  View.cover_of_tiledL (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X k1_t1_loop.trips).2 S32x128.size (by sl_kernel_rfl) y

/-- After the eight trips the codes' block holds the codes. -/
theorem canon_codes (x1 : Vec Ideal S256x9216 .bf16)
    (h : ∀ r : Fin 256, ratio (fun n => x1 (ix2 r n)) < (((2 : ℝ) ^ (126 : ℤ) : ℝ) : EReal)) :
    View.canon (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread x1) k1_t1_loop.trips).1 = codes x1 := by
  funext y
  have e : arg2.view.read (Elt Ideal) (harg2.unread x1) = x1 := harg2.read_unread x1
  have := View.canon_apply_of_pieces _ _ (pieces c i arg1 harg1 arg2 harg2 arg3 harg3 arg4 harg4 arg5 harg5 arg6 harg6 arg7 harg7 arg8 harg8 arg9 harg9 arg10 harg10 arg11 harg11 arg12 harg12 arg13 harg13 (harg2.unread x1) (by rw [e]; exact h) _ le_rfl).1 y (cover_codes c i arg1 harg1 arg2 harg2 arg3 harg3 arg4 harg4 arg5 harg5 arg6 harg6 arg7 harg7 arg8 harg8 arg9 harg9 arg10 harg10 arg11 harg11 arg12 harg12 arg13 harg13 _ y)
  rw [e] at this
  exact this

/-- After the eight trips the scales' block holds the scales. -/
theorem canon_scales (x1 : Vec Ideal S256x9216 .bf16)
    (h : ∀ r : Fin 256, ratio (fun n => x1 (ix2 r n)) < (((2 : ℝ) ^ (126 : ℤ) : ℝ) : EReal)) :
    View.canon (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread x1) k1_t1_loop.trips).2 = scales x1 := by
  funext y
  have e : arg2.view.read (Elt Ideal) (harg2.unread x1) = x1 := harg2.read_unread x1
  have := View.canon_apply_of_pieces _ _ (pieces c i arg1 harg1 arg2 harg2 arg3 harg3 arg4 harg4 arg5 harg5 arg6 harg6 arg7 harg7 arg8 harg8 arg9 harg9 arg10 harg10 arg11 harg11 arg12 harg12 arg13 harg13 (harg2.unread x1) (by rw [e]; exact h) _ le_rfl).2 y (cover_scales c i arg1 harg1 arg2 harg2 arg3 harg3 arg4 harg4 arg5 harg5 arg6 harg6 arg7 harg7 arg8 harg8 arg9 harg9 arg10 harg10 arg11 harg11 arg12 harg12 arg13 harg13 _ y)
  rw [e] at this
  exact this

/-- The codes read back whole. -/
theorem read_codes (x1 : Vec Ideal S256x9216 .bf16)
    (h : ∀ r : Fin 256, ratio (fun n => x1 (ix2 r n)) < (((2 : ℝ) ^ (126 : ℤ) : ℝ) : EReal)) :
    arg11.view.readCov (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread x1) k1_t1_loop.trips).1
      (Rect.unit ![0, 0] ![256, 9216] inb_S256x9216_S256x9216_0_0).toLoadRect = codes x1 := by
  rw [View.readCov_eq_canon', canon_codes c i arg1 harg1 arg2 harg2 arg3 harg3 arg4 harg4 arg5 harg5 arg6 harg6 arg7 harg7 arg8 harg8 arg9 harg9 arg10 harg10 arg11 harg11 arg12 harg12 arg13 harg13 x1 h]
  funext y
  refine congrArg (codes x1) (funext fun d => Fin.ext ?_)
  match d with
  | ⟨0, _⟩ => simp [LoadRect.idx_apply]
  | ⟨1, _⟩ => simp [LoadRect.idx_apply]

/-- The scales read back whole. -/
theorem read_scales (x1 : Vec Ideal S256x9216 .bf16)
    (h : ∀ r : Fin 256, ratio (fun n => x1 (ix2 r n)) < (((2 : ℝ) ^ (126 : ℤ) : ℝ) : EReal)) :
    arg13.view.readCov (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread x1) k1_t1_loop.trips).2
      (Rect.unit ![0, 0] ![256, 128] inb_S256x128_S256x128_0_0).toLoadRect = scales x1 := by
  rw [View.readCov_eq_canon', canon_scales c i arg1 harg1 arg2 harg2 arg3 harg3 arg4 harg4 arg5 harg5 arg6 harg6 arg7 harg7 arg8 harg8 arg9 harg9 arg10 harg10 arg11 harg11 arg12 harg12 arg13 harg13 x1 h]
  funext y
  refine congrArg (scales x1) (funext fun d => Fin.ext ?_)
  match d with
  | ⟨0, _⟩ => simp [LoadRect.idx_apply]
  | ⟨1, _⟩ => simp [LoadRect.idx_apply]

end Cert.KernelIdeal.Val
-- ==== Proof.Blocks.lean ====
module

public import proofs.«01_k».proof.Proof.Trip

/-!
What the second kernel's body leaves in each of its blocks, from the blocks it reads.
-/

@[expose] public section

set_option maxRecDepth 16384
open Idealize.ShloMosaic Idealize.ShloMosaic.TcCoe Idealize.SL.Sem
open Idealize.ShloMosaic.Pipeline (Dat)
namespace Cert.KernelIdeal.Val
open Cert.KernelIdeal Cert.KernelIdeal.Gen Cert.Quant

/-- Two, as the kernel writes it. -/
noncomputable abbrev two : EReal := FloatOps.ofBits (F := Ideal) .f32 0x40000000#32

/-- `g` of one block, rank by token, over the sixteen padded ranks. -/
noncomputable def gB (b : S16x9216.Idx → EReal) (dy : S256x9216.Idx → EReal) (t : Fin 256) (r : Fin 16) : EReal := ∑ n, b (ix2 r n) * dy (ix2 t n)

/-- `xa` of one block. -/
noncomputable def xaB (a : S16x2304.Idx → EReal) (x : S256x2304.Idx → EReal) (t : Fin 256) (r : Fin 16) : EReal := ∑ d, a (ix2 r d) * x (ix2 t d)

/-- `dx` of one block. -/
noncomputable def dxB (dy : S256x9216.Idx → EReal) (w : S9216x2304.Idx → EReal) (b : S16x9216.Idx → EReal) (a : S16x2304.Idx → EReal) : S256x2304.Idx → EReal :=
  fun y => (∑ n, codes dy (ix2 (y 0) n) * w (ix2 n (y 1))) * scaleOf (fun n => dy (ix2 (y 0) n)) + two * ∑ r, gB b dy (y 0) r * a (ix2 r (y 1))

/-- The transposed product of the gradient's block with the second adapter. -/
theorem pay108_eq (x3 : Vec Ideal S16x9216 .bf16) (x1 : Vec Ideal S256x9216 .bf16) (r : Fin 16) (t : Fin 256) :
    k1_pay108 (F := Ideal) x3 x1 (ix2 r t) = gB x3 x1 t r := by
  unfold k1_pay108
  pointwise
  rfl

/-- The transposed product of the input's block with the first adapter. -/
theorem pay109_eq (x4 : Vec Ideal S16x2304 .bf16) (x0 : Vec Ideal S256x2304 .bf16) (r : Fin 16) (t : Fin 256) :
    k1_pay109 (F := Ideal) x4 x0 (ix2 r t) = xaB x4 x0 t r := by
  unfold k1_pay109
  pointwise
  rfl

/-- The same product as `pay108_eq`, by token. -/
theorem pay110_eq (x3 : Vec Ideal S16x9216 .bf16) (x1 : Vec Ideal S256x9216 .bf16) (t : Fin 256) (r : Fin 16) :
    k1_pay110 (F := Ideal) x3 x1 (ix2 t r) = gB x3 x1 t r := by
  unfold k1_pay110
  pointwise
  exact pay108_eq _ _ _ _

/-- What is stored of it: its first eight columns. -/
theorem pay111_eq (x3 : Vec Ideal S16x9216 .bf16) (x1 : Vec Ideal S256x9216 .bf16) (t : Fin 256) (r : Fin 8) :
    k1_pay111 (F := Ideal) x3 x1 (ix2 t r) = gB x3 x1 t (r.castLE (by decide)) := by
  unfold k1_pay111
  pointwise
  exact pay110_eq _ _ _ _

/-- What is stored of the input's product: its first eight columns. -/
theorem pay112_eq (x4 : Vec Ideal S16x2304 .bf16) (x0 : Vec Ideal S256x2304 .bf16) (t : Fin 256) (r : Fin 8) :
    k1_pay112 (F := Ideal) x4 x0 (ix2 t r) = xaB x4 x0 t (r.castLE (by decide)) := by
  unfold k1_pay112
  pointwise
  exact pay109_eq _ _ _ _

/-- What one step adds to the first adapter's gradient. -/
theorem pay113_eq (v : FVec Ideal S16x256 .bf16) (p : Vec Ideal S16x2304 .f32) (x : Vec Ideal S256x2304 .bf16) (r : Fin 16) (d : Fin 2304) :
    k1_pay113 (F := Ideal) v p x (ix2 r d) = p (ix2 r d) + two * ∑ t, v (ix2 r t) * x (ix2 t d) := by
  unfold k1_pay113
  pointwise

/-- What one step adds to the second adapter's gradient. -/
theorem pay114_eq (v : FVec Ideal S16x256 .bf16) (p : Vec Ideal S16x9216 .f32) (x : Vec Ideal S256x9216 .bf16) (r : Fin 16) (n : Fin 9216) :
    k1_pay114 (F := Ideal) v p x (ix2 r n) = p (ix2 r n) + two * ∑ t, v (ix2 r t) * x (ix2 t n) := by
  unfold k1_pay114
  pointwise

/-- One stored tile of `dx` is the tile of `dxB` at the same place. -/
theorem dx_piece (x1 : Vec Ideal S256x9216 .bf16) (x2 : Vec Ideal S9216x2304 .bf16) (x3 : Vec Ideal S16x9216 .bf16) (x4 : Vec Ideal S16x2304 .bf16)
    (j0 : ℕ) (hj : j0 + 256 ≤ 2304) (inb : ∀ d, ![0, j0] d + ![256, 256] d ≤ S256x2304.size d)
    (inbw : ∀ d, ![0, j0] d + ![9216, 256] d ≤ S9216x2304.size d) (inba : ∀ d, ![0, j0] d + ![16, 256] d ≤ S16x2304.size d)
    (P : S256x256.Idx → EReal)
    (hP : ∀ (t : Fin 256) (l : Fin 256), P (ix2 t l) = (∑ n, codes x1 (ix2 t n) * View.ld x2 (Rect.unit ![0, j0] ![9216, 256] inbw) (ix2 n l))
        * (if h : l.val < 128 then scales x1 (ix2 t ⟨l.val, h⟩) else scales x1 (ix2 t ⟨l.val - 128, by have := l.isLt; omega⟩))
        + two * ∑ r, k1_pay110 (F := Ideal) x3 x1 (ix2 t r) * View.ld x4 (Rect.unit ![0, j0] ![16, 256] inba) (ix2 r l))
    (x : S256x256.Idx) : P x = dxB x1 x2 x3 x4 ((Rect.unit (s := S256x2304) ![0, j0] ![256, 256] inb).emb x) := by
  obtain ⟨t, l, rfl⟩ : ∃ a l, x = ix2 a l := ⟨x 0, x 1, by funext d; match d with | ⟨0, _⟩ => rfl | ⟨1, _⟩ => rfl⟩
  have hl : j0 + l.val < 2304 := by have := l.isLt; omega
  have e : (Rect.unit (s := S256x2304) ![0, j0] ![256, 256] inb).emb (ix2 t l) = (ix2 t ⟨j0 + l.val, hl⟩ : S256x2304.Idx) := by
    funext d
    refine Fin.ext ?_
    rw [ValueKit.rect_emb_unit_val]
    match d with
    | ⟨0, _⟩ => exact Nat.zero_add _
    | ⟨1, _⟩ => rfl
  have ew : ∀ n : Fin 9216, View.ld x2 (Rect.unit ![0, j0] ![9216, 256] inbw) (ix2 n l) = x2 (ix2 n ⟨j0 + l.val, hl⟩) := by
    intro n
    refine congrArg x2 (funext fun d => Fin.ext ?_)
    rw [Rect.idx_unit_val]
    match d with
    | ⟨0, _⟩ => exact Nat.zero_add _
    | ⟨1, _⟩ => rfl
  have ea : ∀ r : Fin 16, View.ld x4 (Rect.unit ![0, j0] ![16, 256] inba) (ix2 r l) = x4 (ix2 r ⟨j0 + l.val, hl⟩) := by
    intro n
    refine congrArg x4 (funext fun d => Fin.ext ?_)
    rw [Rect.idx_unit_val]
    match d with
    | ⟨0, _⟩ => exact Nat.zero_add _
    | ⟨1, _⟩ => rfl
  have es : (if h : l.val < 128 then scales x1 (ix2 t ⟨l.val, h⟩) else scales x1 (ix2 t ⟨l.val - 128, by have := l.isLt; omega⟩))
      = scaleOf fun n => x1 (ix2 t n) := by
    split <;> rfl
  rw [hP, es, e]
  simp only [ew, ea, pay110_eq]
  rfl

variable (c : Dev nD) (i : grid1.Coords) (arg1 : Memref sig .tc .vmem S256x2304 .bf16) (harg1 : arg1.IsWhole) (arg2 : Memref sig .tc .vmem S256x9216 .bf16) (harg2 : arg2.IsWhole) (arg3 : Memref sig .tc .vmem S9216x2304 .bf16) (harg3 : arg3.IsWhole) (arg4 : Memref sig .tc .vmem S16x9216 .bf16) (harg4 : arg4.IsWhole) (arg5 : Memref sig .tc .vmem S16x2304 .bf16) (harg5 : arg5.IsWhole) (arg6 : Memref sig .tc .vmem S256x2304 .bf16) (harg6 : arg6.IsWhole) (arg7 : Memref sig .tc .vmem S16x2304 .f32) (harg7 : arg7.IsWhole) (arg8 : Memref sig .tc .vmem S16x9216 .f32) (harg8 : arg8.IsWhole) (arg9 : Memref sig .tc .vmem S256x8 .bf16) (harg9 : arg9.IsWhole) (arg10 : Memref sig .tc .vmem S256x8 .bf16) (harg10 : arg10.IsWhole) (arg11 : Memref sig .tc .vmem S256x9216 .fp8e5m2) (harg11 : arg11.IsWhole) (arg12 : Memref sig .tc .vmem S1x1x256 .f32) (harg12 : arg12.IsWhole) (arg13 : Memref sig .tc .vmem S256x128 .f32) (harg13 : arg13.IsWhole)

variable (x0 : Vec Ideal S256x2304 .bf16) (x1 : Vec Ideal S256x9216 .bf16) (x2 : Vec Ideal S9216x2304 .bf16) (x3 : Vec Ideal S16x9216 .bf16) (x4 : Vec Ideal S16x2304 .bf16) (p : Vec Ideal S16x2304 .f32) (q : Vec Ideal S16x9216 .f32)

/-- `g` of the first block of a run. -/
theorem outA_8 (hc0 : cond1_0 i) (t : Fin 256) (r : Fin 8) :
    out1_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 (ix2 t r) = gB x3 x1 t (r.castLE (by decide)) := by
  frame_out
  exact pay111_eq _ _ _ _

/-- `xa` of the first block of a run. -/
theorem outA_9 (hc0 : cond1_0 i) (t : Fin 256) (r : Fin 8) :
    out1_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 (ix2 t r) = xaB x4 x0 t (r.castLE (by decide)) := by
  frame_out
  exact pay112_eq _ _ _ _

/-- The running `d_lora_a` after the first block of a run. -/
theorem outA_6 (hc0 : cond1_0 i) (r : Fin 16) (d : Fin 2304) :
    out1_A_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 (ix2 r d) = (0 + two * ∑ t, gB x3 x1 t r * x0 (ix2 t d)) := by
  frame_out
  rw [pay113_eq]
  simp only [pay108_eq]
  refine congrArg (· + _) ?_
  unfold k1_pay104
  pointwise

/-- The running `d_lora_b` after the first block of a run. -/
theorem outA_7 (hc0 : cond1_0 i) (r : Fin 16) (n : Fin 9216) :
    out1_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 (ix2 r n) = (0 + two * ∑ t, xaB x4 x0 t r * x1 (ix2 t n)) := by
  frame_out
  rw [pay114_eq]
  simp only [pay109_eq]
  refine congrArg (· + _) ?_
  unfold k1_pay105
  pointwise

/-- The codes of the first block of a run. -/
theorem outA_10 (hc0 : cond1_0 i) (h : ∀ r : Fin 256, ratio (fun n => x1 (ix2 r n)) < (((2 : ℝ) ^ (126 : ℤ) : ℝ) : EReal))  :
    out1_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 = codes x1 := by
  frame_out
  exact canon_codes c i arg1 harg1 arg2 harg2 arg3 harg3 arg4 harg4 arg5 harg5 arg6 harg6 arg7 harg7 arg8 harg8 arg9 harg9 arg10 harg10 arg11 harg11 arg12 harg12 arg13 harg13 x1 h

/-- The scales of the first block of a run. -/
theorem outA_11 (hc0 : cond1_0 i) (h : ∀ r : Fin 256, ratio (fun n => x1 (ix2 r n)) < (((2 : ℝ) ^ (126 : ℤ) : ℝ) : EReal)) (t : Fin 256) :
    out1_A_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 (ix3 0 0 t) = scaleOf fun n => x1 (ix2 t n) := by
  frame_out
  unfold k1_pay107
  pointwise
  exact congrFun (read_scales c i arg1 harg1 arg2 harg2 arg3 harg3 arg4 harg4 arg5 harg5 arg6 harg6 arg7 harg7 arg8 harg8 arg9 harg9 arg10 harg10 arg11 harg11 arg12 harg12 arg13 harg13 x1 h) (ix2 t 0)

/-- `dx` of the first block of a run. -/
theorem outA_5 (hc0 : cond1_0 i) (h : ∀ r : Fin 256, ratio (fun n => x1 (ix2 r n)) < (((2 : ℝ) ^ (126 : ℤ) : ℝ) : EReal)) (y : S256x2304.Idx) :
    out1_A_5 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 y = dxB x1 x2 x3 x4 y := by
  have ec : arg11.view.readCov (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread x1) (Scf.trips (0#32) (Scalar.addi 0#32 8#32) 1#32)).1
      (Rect.unit ![0, 0] ![256, 9216] inb_S256x9216_S256x9216_0_0).toLoadRect = codes x1 := read_codes c i arg1 harg1 arg2 harg2 arg3 harg3 arg4 harg4 arg5 harg5 arg6 harg6 arg7 harg7 arg8 harg8 arg9 harg9 arg10 harg10 arg11 harg11 arg12 harg12 arg13 harg13 x1 h
  have es : arg13.view.readCov (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread x1) (Scf.trips (0#32) (Scalar.addi 0#32 8#32) 1#32)).2
      (Rect.unit ![0, 0] ![256, 128] inb_S256x128_S256x128_0_0).toLoadRect = scales x1 := read_scales c i arg1 harg1 arg2 harg2 arg3 harg3 arg4 harg4 arg5 harg5 arg6 harg6 arg7 harg7 arg8 harg8 arg9 harg9 arg10 harg10 arg11 harg11 arg12 harg12 arg13 harg13 x1 h
  frame_out
  rw [ec, es]
  refine View.canon_apply_of_pieces (Val := Elt Ideal) (e := .bf16) (dxB x1 x2 x3 x4) _ ?_ y (View.cover_of_tiledL (s := S256x2304) _ S256x256.size (by sl_kernel_rfl) y)
  simp only [List.forall_mem_cons]
  repeat' apply And.intro
  all_goals try exact List.forall_mem_nil _
  all_goals refine dx_piece x1 x2 x3 x4 _ (by decide) _ (by decide) (by decide) _ ?_
  all_goals intro a l
  all_goals unfold_payloads
  all_goals pointwise
  all_goals try rfl

/-- `g` of a later block. -/
theorem outB_8 (hc0 : ¬ cond1_0 i) (t : Fin 256) (r : Fin 8) :
    out1_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 p q (ix2 t r) = gB x3 x1 t (r.castLE (by decide)) := by
  frame_out
  exact pay111_eq _ _ _ _

/-- `xa` of a later block. -/
theorem outB_9 (hc0 : ¬ cond1_0 i) (t : Fin 256) (r : Fin 8) :
    out1_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 p q (ix2 t r) = xaB x4 x0 t (r.castLE (by decide)) := by
  frame_out
  exact pay112_eq _ _ _ _

/-- The running `d_lora_a` after a later block. -/
theorem outB_6 (hc0 : ¬ cond1_0 i) (r : Fin 16) (d : Fin 2304) :
    out1_B_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 p q (ix2 r d) = (p (ix2 r d) + two * ∑ t, gB x3 x1 t r * x0 (ix2 t d)) := by
  frame_out
  rw [pay113_eq]
  simp only [pay108_eq]

/-- The running `d_lora_b` after a later block. -/
theorem outB_7 (hc0 : ¬ cond1_0 i) (r : Fin 16) (n : Fin 9216) :
    out1_B_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 p q (ix2 r n) = (q (ix2 r n) + two * ∑ t, xaB x4 x0 t r * x1 (ix2 t n)) := by
  frame_out
  rw [pay114_eq]
  simp only [pay109_eq]

/-- The codes of a later block. -/
theorem outB_10 (hc0 : ¬ cond1_0 i) (h : ∀ r : Fin 256, ratio (fun n => x1 (ix2 r n)) < (((2 : ℝ) ^ (126 : ℤ) : ℝ) : EReal))  :
    out1_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 p q = codes x1 := by
  frame_out
  exact canon_codes c i arg1 harg1 arg2 harg2 arg3 harg3 arg4 harg4 arg5 harg5 arg6 harg6 arg7 harg7 arg8 harg8 arg9 harg9 arg10 harg10 arg11 harg11 arg12 harg12 arg13 harg13 x1 h

/-- The scales of a later block. -/
theorem outB_11 (hc0 : ¬ cond1_0 i) (h : ∀ r : Fin 256, ratio (fun n => x1 (ix2 r n)) < (((2 : ℝ) ^ (126 : ℤ) : ℝ) : EReal)) (t : Fin 256) :
    out1_B_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 p q (ix3 0 0 t) = scaleOf fun n => x1 (ix2 t n) := by
  frame_out
  unfold k1_pay107
  pointwise
  exact congrFun (read_scales c i arg1 harg1 arg2 harg2 arg3 harg3 arg4 harg4 arg5 harg5 arg6 harg6 arg7 harg7 arg8 harg8 arg9 harg9 arg10 harg10 arg11 harg11 arg12 harg12 arg13 harg13 x1 h) (ix2 t 0)

/-- `dx` of a later block. -/
theorem outB_5 (hc0 : ¬ cond1_0 i) (h : ∀ r : Fin 256, ratio (fun n => x1 (ix2 r n)) < (((2 : ℝ) ^ (126 : ℤ) : ℝ) : EReal)) (y : S256x2304.Idx) :
    out1_B_5 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 p q y = dxB x1 x2 x3 x4 y := by
  have ec : arg11.view.readCov (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread x1) (Scf.trips (0#32) (Scalar.addi 0#32 8#32) 1#32)).1
      (Rect.unit ![0, 0] ![256, 9216] inb_S256x9216_S256x9216_0_0).toLoadRect = codes x1 := read_codes c i arg1 harg1 arg2 harg2 arg3 harg3 arg4 harg4 arg5 harg5 arg6 harg6 arg7 harg7 arg8 harg8 arg9 harg9 arg10 harg10 arg11 harg11 arg12 harg12 arg13 harg13 x1 h
  have es : arg13.view.readCov (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (harg2.unread x1) (Scf.trips (0#32) (Scalar.addi 0#32 8#32) 1#32)).2
      (Rect.unit ![0, 0] ![256, 128] inb_S256x128_S256x128_0_0).toLoadRect = scales x1 := read_scales c i arg1 harg1 arg2 harg2 arg3 harg3 arg4 harg4 arg5 harg5 arg6 harg6 arg7 harg7 arg8 harg8 arg9 harg9 arg10 harg10 arg11 harg11 arg12 harg12 arg13 harg13 x1 h
  frame_out
  rw [ec, es]
  refine View.canon_apply_of_pieces (Val := Elt Ideal) (e := .bf16) (dxB x1 x2 x3 x4) _ ?_ y (View.cover_of_tiledL (s := S256x2304) _ S256x256.size (by sl_kernel_rfl) y)
  simp only [List.forall_mem_cons]
  repeat' apply And.intro
  all_goals try exact List.forall_mem_nil _
  all_goals refine dx_piece x1 x2 x3 x4 _ (by decide) _ (by decide) (by decide) _ ?_
  all_goals intro a l
  all_goals unfold_payloads
  all_goals pointwise
  all_goals try rfl

end Cert.KernelIdeal.Val
-- ==== Proof.Arrays.lean ====
module

public import proofs.«01_k».proof.Proof.Blocks

/-!
The arrays the second kernel leaves, from the arrays it reads.
-/

@[expose] public section

set_option maxRecDepth 16384
open Idealize.ShloMosaic Idealize.ShloMosaic.TcCoe Idealize.SL.Sem
open Idealize.ShloMosaic.Pipeline (Dat)
namespace Cert.KernelIdeal.Val
open Cert.KernelIdeal Cert.KernelIdeal.Gen Cert.Quant

variable (V : (c : Dev nD) → (b : Ref sig .tc) → Buf (Elt Ideal) ((c : Thread nD τ).loc b)) (c : Dev nD)

/-- Which block of operand or result 1 a grid step has. -/
theorem idx1_1 : ∀ t : Fin cfg1.N, win1_1.index t = ![t.val, 0] := (by decide +kernel : ∀ t : Fin grid1.N, _)
/-- Which block of operand or result 0 a grid step has. -/
theorem idx1_0 : ∀ t : Fin cfg1.N, win1_0.index t = ![t.val, 0] := (by decide +kernel : ∀ t : Fin grid1.N, _)
/-- Which block of operand or result 2 a grid step has. -/
theorem idx1_2 : ∀ t : Fin cfg1.N, win1_2.index t = ![0, 0] := (by decide +kernel : ∀ t : Fin grid1.N, _)
/-- Which block of operand or result 3 a grid step has. -/
theorem idx1_3 : ∀ t : Fin cfg1.N, win1_3.index t = ![0, 0] := (by decide +kernel : ∀ t : Fin grid1.N, _)
/-- Which block of operand or result 4 a grid step has. -/
theorem idx1_4 : ∀ t : Fin cfg1.N, win1_4.index t = ![0, 0] := (by decide +kernel : ∀ t : Fin grid1.N, _)
/-- Which block of operand or result 5 a grid step has. -/
theorem idx1_5 : ∀ t : Fin cfg1.N, win1_5.index t = ![t.val, 0] := (by decide +kernel : ∀ t : Fin grid1.N, _)
/-- Which block of operand or result 6 a grid step has. -/
theorem idx1_6 : ∀ t : Fin cfg1.N, win1_6.index t = ![0, 0] := (by decide +kernel : ∀ t : Fin grid1.N, _)
/-- Which block of operand or result 7 a grid step has. -/
theorem idx1_7 : ∀ t : Fin cfg1.N, win1_7.index t = ![0, 0] := (by decide +kernel : ∀ t : Fin grid1.N, _)
/-- Which block of operand or result 8 a grid step has. -/
theorem idx1_8 : ∀ t : Fin cfg1.N, win1_8.index t = ![t.val, 0] := (by decide +kernel : ∀ t : Fin grid1.N, _)
/-- Which block of operand or result 9 a grid step has. -/
theorem idx1_9 : ∀ t : Fin cfg1.N, win1_9.index t = ![t.val, 0] := (by decide +kernel : ∀ t : Fin grid1.N, _)
/-- Which block of operand or result 10 a grid step has. -/
theorem idx1_10 : ∀ t : Fin cfg1.N, win1_10.index t = ![t.val, 0] := (by decide +kernel : ∀ t : Fin grid1.N, _)
/-- Which block of operand or result 11 a grid step has. -/
theorem idx1_11 : ∀ t : Fin cfg1.N, win1_11.index t = ![t.val, 0, 0] := (by decide +kernel : ∀ t : Fin grid1.N, _)

/-- The token that place `a` of block `t` is. -/
def tok (t : Fin cfg1.N) (a : Fin 256) : Fin 18432 := ⟨t.val * 256 + a.val, by have h : t.val < 72 := t.isLt; have := a.isLt; omega⟩

/-- The main call's block of the input: 256 tokens' rows. -/
theorem in0 (t : Fin cfg1.N) : iblk1 V c 0 t = fun z : S256x2304.Idx => V c main_v5 (ix2 (tok t (z 0)) (z 1)) := by
  funext z
  blk_ext [iblk1, tok, idx1_0 t]
/-- The block of the gradient: the same tokens' rows. -/
theorem in1 (t : Fin cfg1.N) : iblk1 V c 1 t = fun z : S256x9216.Idx => V c main_v6 (ix2 (tok t (z 0)) (z 1)) := by
  funext z
  blk_ext [iblk1, tok, idx1_1 t]
/-- The weight comes whole at every step. -/
theorem in2 (t : Fin cfg1.N) : iblk1 V c 2 t = fun z : S9216x2304.Idx => V c main_v1 z := by
  funext z
  blk_ext [iblk1, idx1_2 t]
/-- The padded second adapter comes whole at every step. -/
theorem in3 (t : Fin cfg1.N) : iblk1 V c 3 t = fun z : S16x9216.Idx => V c main_v4 z := by
  funext z
  blk_ext [iblk1, idx1_3 t]
/-- The padded, transposed first adapter comes whole at every step. -/
theorem in4 (t : Fin cfg1.N) : iblk1 V c 4 t = fun z : S16x2304.Idx => V c main_v3 z := by
  funext z
  blk_ext [iblk1, idx1_4 t]

/-- Two times a sum is the sum of the doubled terms. -/
theorem two_mul_sum {ι : Type} (s : Finset ι) (f : ι → EReal) : two * ∑ i ∈ s, f i = ∑ i ∈ s, two * f i := by
  have h0 : (0 : EReal) ≤ two := by rw [two, show FloatOps.ofBits (F := Ideal) .f32 0x40000000#32 = _ from two_f32]; exact EReal.coe_nonneg.mpr (by norm_num)
  have h1 : two ≠ ⊤ := by rw [two, show FloatOps.ofBits (F := Ideal) .f32 0x40000000#32 = _ from two_f32]; exact EReal.coe_ne_top _
  classical
  induction s using Finset.induction_on with
  | empty => simp
  | insert a s ha ih => rw [Finset.sum_insert ha, Finset.sum_insert ha, EReal.left_distrib_of_nonneg_of_ne_top h0 h1, ih]

/-- The rows of a block are rows of the array. -/
theorem rows (h : ∀ T : Fin 18432, ratio (fun n => V c main_v6 (ix2 T n)) < (((2 : ℝ) ^ (126 : ℤ) : ℝ) : EReal)) (t : Fin cfg1.N) (r : Fin 256) : ratio (fun n => iblk1 V c 1 t (ix2 r n)) < (((2 : ℝ) ^ (126 : ℤ) : ℝ) : EReal) := by
  rw [in1]
  exact h (tok t r)

/-- `g` from the arrays, over the sixteen padded ranks. -/
noncomputable def gA (b : S16x9216.Idx → EReal) (dy : S18432x9216.Idx → EReal) (T : Fin 18432) (r : Fin 16) : EReal := ∑ n, b (ix2 r n) * dy (ix2 T n)

/-- `xa` from the arrays, over the sixteen padded ranks. -/
noncomputable def xaA (a : S16x2304.Idx → EReal) (x : S18432x2304.Idx → EReal) (T : Fin 18432) (r : Fin 16) : EReal := ∑ d, a (ix2 r d) * x (ix2 T d)

/-- `d_lora_a` from the arrays, over the sixteen padded ranks. -/
noncomputable def daA (b : S16x9216.Idx → EReal) (dy : S18432x9216.Idx → EReal) (x : S18432x2304.Idx → EReal) : S16x2304.Idx → EReal :=
  fun y => two * ∑ T, gA b dy T (y 0) * x (ix2 T (y 1))

/-- `d_lora_b` from the arrays, over the sixteen padded ranks. -/
noncomputable def dbA (a : S16x2304.Idx → EReal) (x : S18432x2304.Idx → EReal) (dy : S18432x9216.Idx → EReal) : S16x9216.Idx → EReal :=
  fun y => two * ∑ T, xaA a x T (y 0) * dy (ix2 T (y 1))

/-- `dx` from the arrays. -/
noncomputable def dxA (dy : S18432x9216.Idx → EReal) (w : S9216x2304.Idx → EReal) (b : S16x9216.Idx → EReal) (a : S16x2304.Idx → EReal) : S18432x2304.Idx → EReal :=
  fun y => (∑ n, codeOf (fun n => dy (ix2 (y 0) n)) n * w (ix2 n (y 1))) * scaleOf (fun n => dy (ix2 (y 0) n))
    + two * ∑ r : Fin 16, gA b dy (y 0) r * a (ix2 r (y 1))

/-- The `dx` array. -/
theorem arr5 (h : ∀ T : Fin 18432, ratio (fun n => V c main_v6 (ix2 T n)) < (((2 : ℝ) ^ (126 : ℤ) : ℝ) : EReal)) :
    (dat1 V c).arrAt 5 cfg1.N = dxA (V c main_v6) (V c main_v1) (V c main_v4) (V c main_v3) := by
  refine (dat1 V c).arrAt_eq_of_covers 5 _ (by decide +kernel) fun t hf y => ?_
  blk_simp
  rw [after1_5]
  have e : (win1_5.blk t).view.emb y = (ix2 (tok t (y 0)) (y 1) : S18432x2304.Idx) := by
    blk_ext [tok, idx1_5 t]
  rw [e]
  have ho : (outsAt1 V c t.val t.isLt).1 y = dxB (iblk1 V c 1 t) (iblk1 V c 2 t) (iblk1 V c 3 t) (iblk1 V c 4 t) y := by
    by_cases h0 : t.val % 72 = 0
    · rw [outsAt1_A V c t h0]
      dsimp only
      exact outA_5 _ _ _ _ _ _ _ _ _ _ _ _ _ _ _ _ _ _ _ _ _ _ _ _ _ _ _ _ _ _ _ _ _ _ (rows V c h t) y
    · rw [outsAt1_B V c t h0]
      dsimp only
      exact outB_5 _ _ _ _ _ _ _ _ _ _ _ _ _ _ _ _ _ _ _ _ _ _ _ _ _ _ _ _ _ _ _ _ _ _ _ _ (rows V c h t) y
  refine ho.trans ?_
  rw [in1, in2, in3, in4]
  rfl

/-- The codes array. -/
theorem arr10 (h : ∀ T : Fin 18432, ratio (fun n => V c main_v6 (ix2 T n)) < (((2 : ℝ) ^ (126 : ℤ) : ℝ) : EReal)) :
    (dat1 V c).arrAt 10 cfg1.N = fun y : S18432x9216.Idx => codeOf (fun n => V c main_v6 (ix2 (y 0) n)) (y 1) := by
  refine (dat1 V c).arrAt_eq_of_covers 10 _ (by decide +kernel) fun t hf y => ?_
  blk_simp
  rw [after1_10]
  have e : (win1_10.blk t).view.emb y = (ix2 (tok t (y 0)) (y 1) : S18432x9216.Idx) := by
    blk_ext [tok, idx1_10 t]
  rw [e]
  have ho : (outsAt1 V c t.val t.isLt).2.2.2.2.2.1 = codes (iblk1 V c 1 t) := by
    by_cases h0 : t.val % 72 = 0
    · rw [outsAt1_A V c t h0]
      dsimp only
      exact outA_10 _ _ _ _ _ _ _ _ _ _ _ _ _ _ _ _ _ _ _ _ _ _ _ _ _ _ _ _ _ _ _ _ _ _ (rows V c h t)
    · rw [outsAt1_B V c t h0]
      dsimp only
      exact outB_10 _ _ _ _ _ _ _ _ _ _ _ _ _ _ _ _ _ _ _ _ _ _ _ _ _ _ _ _ _ _ _ _ _ _ _ _ (rows V c h t)
  refine (congrFun ho y).trans ?_
  rw [in1]
  rfl

/-- The scales array. -/
theorem arr11 (h : ∀ T : Fin 18432, ratio (fun n => V c main_v6 (ix2 T n)) < (((2 : ℝ) ^ (126 : ℤ) : ℝ) : EReal)) :
    (dat1 V c).arrAt 11 cfg1.N = fun y : S72x1x256.Idx => scaleOf fun n => V c main_v6 (ix2 (tok (y 0) (y 2)) n) := by
  refine (dat1 V c).arrAt_eq_of_covers 11 _ (by decide +kernel) fun t hf y => ?_
  blk_simp
  rw [after1_11]
  have e : (win1_11.blk t).view.emb y = (ix3 t (y 1) (y 2) : S72x1x256.Idx) := by
    blk_ext [idx1_11 t]
  rw [e]
  obtain ⟨l, rfl⟩ : ∃ l : Fin 256, y = ix3 0 0 l := ⟨y 2, by blk_ext []⟩
  have ho : (outsAt1 V c t.val t.isLt).2.2.2.2.2.2 (ix3 0 0 l) = scaleOf (fun n => iblk1 V c 1 t (ix2 l n)) := by
    by_cases h0 : t.val % 72 = 0
    · rw [outsAt1_A V c t h0]
      dsimp only
      exact outA_11 _ _ _ _ _ _ _ _ _ _ _ _ _ _ _ _ _ _ _ _ _ _ _ _ _ _ _ _ _ _ _ _ _ _ (rows V c h t) l
    · rw [outsAt1_B V c t h0]
      dsimp only
      exact outB_11 _ _ _ _ _ _ _ _ _ _ _ _ _ _ _ _ _ _ _ _ _ _ _ _ _ _ _ _ _ _ _ _ _ _ _ _ (rows V c h t) l
  refine ho.trans ?_
  rw [in1]
  rfl

/-- The `g` array. -/
theorem arr8 :
    (dat1 V c).arrAt 8 cfg1.N = fun y : S18432x8.Idx => gA (V c main_v4) (V c main_v6) (y 0) ((y 1).castLE (by decide)) := by
  refine (dat1 V c).arrAt_eq_of_covers 8 _ (by decide +kernel) fun t hf y => ?_
  blk_simp
  rw [after1_8]
  have e : (win1_8.blk t).view.emb y = (ix2 (tok t (y 0)) (y 1) : S18432x8.Idx) := by
    blk_ext [tok, idx1_8 t]
  rw [e]
  obtain ⟨a, r, rfl⟩ : ∃ (a : Fin 256) (r : Fin 8), y = ix2 a r := ⟨y 0, y 1, by blk_ext []⟩
  have ho : (outsAt1 V c t.val t.isLt).2.2.2.1 (ix2 a r) = gB (iblk1 V c 3 t) (iblk1 V c 1 t) a (r.castLE (by decide)) := by
    by_cases h0 : t.val % 72 = 0
    · rw [outsAt1_A V c t h0]
      dsimp only
      exact outA_8 _ _ _ _ _ _ _ _ _ _ _ _ _ _ _ _ _ _ _ _ _ _ _ _ _ _ _ _ _ _ _ _ _ _ a r
    · rw [outsAt1_B V c t h0]
      dsimp only
      exact outB_8 _ _ _ _ _ _ _ _ _ _ _ _ _ _ _ _ _ _ _ _ _ _ _ _ _ _ _ _ _ _ _ _ _ _ _ _ a r
  refine ho.trans ?_
  rw [in1, in3]
  rfl

/-- The `xa` array. -/
theorem arr9 :
    (dat1 V c).arrAt 9 cfg1.N = fun y : S18432x8.Idx => xaA (V c main_v3) (V c main_v5) (y 0) ((y 1).castLE (by decide)) := by
  refine (dat1 V c).arrAt_eq_of_covers 9 _ (by decide +kernel) fun t hf y => ?_
  blk_simp
  rw [after1_9]
  have e : (win1_9.blk t).view.emb y = (ix2 (tok t (y 0)) (y 1) : S18432x8.Idx) := by
    blk_ext [tok, idx1_9 t]
  rw [e]
  obtain ⟨a, r, rfl⟩ : ∃ (a : Fin 256) (r : Fin 8), y = ix2 a r := ⟨y 0, y 1, by blk_ext []⟩
  have ho : (outsAt1 V c t.val t.isLt).2.2.2.2.1 (ix2 a r) = xaB (iblk1 V c 4 t) (iblk1 V c 0 t) a (r.castLE (by decide)) := by
    by_cases h0 : t.val % 72 = 0
    · rw [outsAt1_A V c t h0]
      dsimp only
      exact outA_9 _ _ _ _ _ _ _ _ _ _ _ _ _ _ _ _ _ _ _ _ _ _ _ _ _ _ _ _ _ _ _ _ _ _ a r
    · rw [outsAt1_B V c t h0]
      dsimp only
      exact outB_9 _ _ _ _ _ _ _ _ _ _ _ _ _ _ _ _ _ _ _ _ _ _ _ _ _ _ _ _ _ _ _ _ _ _ _ _ a r
  refine ho.trans ?_
  rw [in0, in4]
  rfl

/-- The `d_lora_a` array: the last point's block, the sum over all blocks. -/
theorem arr6 :
    (dat1 V c).arrAt 6 cfg1.N = daA (V c main_v4) (V c main_v6) (V c main_v5) := by
  refine (dat1 V c).arrAt_eq_of_covers 6 _ (by decide +kernel) fun t hf y => ?_
  blk_simp
  rw [after1_6]
  have e : (win1_6.blk t).view.emb y = (y : S16x2304.Idx) := by
    blk_ext [idx1_6 t]
  rw [e]
  have ht : t.val + 1 = cfg1.N := by
    have h71 := (flush1_6 t).mp hf
    have hl : t.val < 72 := t.isLt
    have hN : cfg1.N = 72 := N_1
    omega
  have key := Pipeline.eq_sum_fin_of_reset_step_apply_last (fun n h => (outsAt1 V c n h).2.1) 72 (fun _ => (0 : EReal))
    (fun t y => two * ∑ a, gB (iblk1 V c 3 t) (iblk1 V c 1 t) a (y 0) * iblk1 V c 0 t (ix2 a (y 1))) (fun t h0 y => by
      obtain ⟨r, j, rfl⟩ : ∃ (r : Fin 16) (j : Fin 2304), y = ix2 r j := ⟨y 0, y 1, by blk_ext []⟩
      dsimp only
      rw [outsAt1_A V c t h0]
      dsimp only
      exact outA_6 _ _ _ _ _ _ _ _ _ _ _ _ _ _ _ _ _ _ _ _ _ _ _ _ _ _ _ _ _ _ _ _ _ _ r j) (fun t h0 y => by
      obtain ⟨r, j, rfl⟩ : ∃ (r : Fin 16) (j : Fin 2304), y = ix2 r j := ⟨y 0, y 1, by blk_ext []⟩
      dsimp only
      rw [outsAt1_B V c t h0]
      dsimp only
      exact outB_6 _ _ _ _ _ _ _ _ _ _ _ _ _ _ _ _ _ _ _ _ _ _ _ _ _ _ _ _ _ _ _ _ _ _ _ _ r j) (le_of_eq N_1) t ht y
  refine key.trans ?_
  dsimp only
  rw [zero_add, ← two_mul_sum]
  refine congrArg (fun z : EReal => two * z) ?_
  have step : ∀ (t : Fin cfg1.N) (a : Fin 256),
      @HMul.hMul EReal EReal EReal _ (gB (iblk1 V c 3 t) (iblk1 V c 1 t) a (y 0)) (iblk1 V c 0 t (ix2 a (y 1)))
        = @HMul.hMul EReal EReal EReal _ (gA (V c main_v4) (V c main_v6) (tok t a) (y 0)) (V c main_v5 (ix2 (tok t a) (y 1))) := by
    intro t a
    rw [in0, in1, in3]
    rfl
  exact Fin.sum_mul_add_congr (L := 18432) (S := 72) (n := 256) fun t a hl => step t a

/-- The `d_lora_b` array: the last point's block, the sum over all blocks. -/
theorem arr7 :
    (dat1 V c).arrAt 7 cfg1.N = dbA (V c main_v3) (V c main_v5) (V c main_v6) := by
  refine (dat1 V c).arrAt_eq_of_covers 7 _ (by decide +kernel) fun t hf y => ?_
  blk_simp
  rw [after1_7]
  have e : (win1_7.blk t).view.emb y = (y : S16x9216.Idx) := by
    blk_ext [idx1_7 t]
  rw [e]
  have ht : t.val + 1 = cfg1.N := by
    have h71 := (flush1_7 t).mp hf
    have hl : t.val < 72 := t.isLt
    have hN : cfg1.N = 72 := N_1
    omega
  have key := Pipeline.eq_sum_fin_of_reset_step_apply_last (fun n h => (outsAt1 V c n h).2.2.1) 72 (fun _ => (0 : EReal))
    (fun t y => two * ∑ a, xaB (iblk1 V c 4 t) (iblk1 V c 0 t) a (y 0) * iblk1 V c 1 t (ix2 a (y 1))) (fun t h0 y => by
      obtain ⟨r, j, rfl⟩ : ∃ (r : Fin 16) (j : Fin 9216), y = ix2 r j := ⟨y 0, y 1, by blk_ext []⟩
      dsimp only
      rw [outsAt1_A V c t h0]
      dsimp only
      exact outA_7 _ _ _ _ _ _ _ _ _ _ _ _ _ _ _ _ _ _ _ _ _ _ _ _ _ _ _ _ _ _ _ _ _ _ r j) (fun t h0 y => by
      obtain ⟨r, j, rfl⟩ : ∃ (r : Fin 16) (j : Fin 9216), y = ix2 r j := ⟨y 0, y 1, by blk_ext []⟩
      dsimp only
      rw [outsAt1_B V c t h0]
      dsimp only
      exact outB_7 _ _ _ _ _ _ _ _ _ _ _ _ _ _ _ _ _ _ _ _ _ _ _ _ _ _ _ _ _ _ _ _ _ _ _ _ r j) (le_of_eq N_1) t ht y
  refine key.trans ?_
  dsimp only
  rw [zero_add, ← two_mul_sum]
  refine congrArg (fun z : EReal => two * z) ?_
  have step : ∀ (t : Fin cfg1.N) (a : Fin 256),
      @HMul.hMul EReal EReal EReal _ (xaB (iblk1 V c 4 t) (iblk1 V c 0 t) a (y 0)) (iblk1 V c 1 t (ix2 a (y 1)))
        = @HMul.hMul EReal EReal EReal _ (xaA (V c main_v3) (V c main_v5) (tok t a) (y 0)) (V c main_v6 (ix2 (tok t a) (y 1))) := by
    intro t a
    rw [in0, in1, in4]
    rfl
  exact Fin.sum_mul_add_congr (L := 18432) (S := 72) (n := 256) fun t a hl => step t a

end Cert.KernelIdeal.Val
-- ==== Proof.Results.lean ====
module

public import proofs.«01_k».proof.Proof.Spec

/-!
The seven results as functions of the six arguments, in plain mathematics: both programs are shown to leave these.
-/

@[expose] public section

open Idealize.ShloMosaic
namespace Cert.Quant

/-- The token numbered `T` over all sequences: its sequence and its place in it. -/
def seqOf (T : Fin 18432) : Fin 24 := ⟨T.val / 768, by omega⟩
/-- See `seqOf`. -/
def posOf (T : Fin 18432) : Fin 768 := ⟨T.val % 768, by omega⟩
/-- The number of the token at a place of a sequence. -/
def tokOf (b : Fin 24) (t : Fin 768) : Fin 18432 := ⟨b.val * 768 + t.val, by omega⟩

/-- A token's sequence. -/
theorem seqOf_tokOf (b : Fin 24) (t : Fin 768) : seqOf (tokOf b t) = b := Fin.ext (by simp only [seqOf, tokOf]; omega)
/-- A token's position in its sequence. -/
theorem posOf_tokOf (b : Fin 24) (t : Fin 768) : posOf (tokOf b t) = t := Fin.ext (by simp only [posOf, tokOf]; omega)

/-- The signed value of a byte's low four bits. -/
def lowNibble (q : BitVec 8) : BitVec 32 := (BitVec.setWidth 32 q <<< 28).sshiftRight 28
/-- The signed value of a byte's high four bits. -/
def highNibble (q : BitVec 8) : BitVec 32 := (BitVec.setWidth 32 q <<< 24).sshiftRight 28

variable (x : Fin 24 → Fin 768 → Fin 2304 → EReal) (dy : Fin 24 → Fin 768 → Fin 9216 → EReal)
  (p : Fin 1152 → Fin 9216 → BitVec 8) (s : Fin 18 → Fin 9216 → EReal) (a : Fin 2304 → Fin 8 → EReal)
  (b : Fin 8 → Fin 9216 → EReal)

/-- `g`: a token's gradient through `lora_b`. -/
noncomputable def resG (i : Fin 24) (t : Fin 768) (r : Fin 8) : EReal := ∑ n, dy i t n * b r n

/-- `xa`: a token's input through `lora_a`. -/
noncomputable def resXa (i : Fin 24) (t : Fin 768) (r : Fin 8) : EReal := ∑ d, x i t d * a d r

/-- The weight at output row `n`, input column `d`: a signed nibble of the packed byte times its group's scale. -/
noncomputable def weight (n : Fin 9216) (d : Fin 2304) : EReal :=
  (FloatOps.sitofp (F := Ideal) .f32 (if d.val % 2 = 0 then lowNibble (p ⟨d.val / 2, by omega⟩ n) else highNibble (p ⟨d.val / 2, by omega⟩ n)) : EReal)
    * s ⟨d.val / 128, by omega⟩ n

/-- `dx`: the rounded gradient through the weight, by the token's scale, plus the adapter's part. -/
noncomputable def resDx (i : Fin 24) (t : Fin 768) (d : Fin 2304) : EReal :=
  (∑ n, codeOf (dy i t) n * weight p s n d) * scaleOf (dy i t)
    + (FloatOps.ofBits (F := Ideal) .f32 0x40000000#32 : EReal) * ∑ r, resG dy b i t r * a d r

/-- `d_lora_a`: twice the sum over all tokens of the input times `g`. -/
noncomputable def resDa (d : Fin 2304) (r : Fin 8) : EReal :=
  (FloatOps.ofBits (F := Ideal) .f32 0x40000000#32 : EReal) * ∑ T, x (seqOf T) (posOf T) d * resG dy b (seqOf T) (posOf T) r

/-- `d_lora_b`: twice the sum over all tokens of `xa` times the gradient. -/
noncomputable def resDb (r : Fin 8) (n : Fin 9216) : EReal :=
  (FloatOps.ofBits (F := Ideal) .f32 0x40000000#32 : EReal) * ∑ T, resXa x a (seqOf T) (posOf T) r * dy (seqOf T) (posOf T) n

end Cert.Quant
-- ==== Proof.Entry.lean ====
module

public import proofs.«01_k».proof.Proof.Arrays
public import proofs.«01_k».proof.Proof.Results

/-!
What the second kernel's operands hold, from the arguments.
-/

@[expose] public section

set_option maxRecDepth 16384
open Idealize.ShloMosaic Idealize.ShloMosaic.TcCoe Idealize.SL.Sem
open Idealize.ShloMosaic.Pipeline (Dat)
namespace Cert.KernelIdeal.Val
open Cert.KernelIdeal Cert.KernelIdeal.Gen Cert.Quant

section Host
variable (σ : Valuation τ sig (Elt Ideal))

/-- The input, its sequences joined. -/
theorem host_v5 (T : Fin 18432) (d : Fin 2304) :
    (StableHlo.after hostOps1_4 σ (Proc.devRef .tc main_v5) : S18432x2304.Idx → EReal) (ix2 T d)
      = (σ (Proc.devRef .tc main_arg0) : S24x768x2304.Idx → EReal) (ix3 (seqOf T) (posOf T) d) := by
  entry_read
  pointwise
  rfl

/-- The gradient, its sequences joined. -/
theorem host_v6 (T : Fin 18432) (n : Fin 9216) :
    (StableHlo.after hostOps1_4 σ (Proc.devRef .tc main_v6) : S18432x9216.Idx → EReal) (ix2 T n)
      = (σ (Proc.devRef .tc main_arg1) : S24x768x9216.Idx → EReal) (ix3 (seqOf T) (posOf T) n) := by
  entry_read
  pointwise
  rfl

/-- `lora_b` with eight rows of zeros below it. -/
theorem host_v4 (r : Fin 16) (n : Fin 9216) :
    (StableHlo.after hostOps1_3 (StableHlo.after hostOps1_2 σ) (Proc.devRef .tc main_v4) : S16x9216.Idx → EReal) (ix2 r n)
      = if h : r.val < 8 then (σ (Proc.devRef .tc main_arg5) : S8x9216.Idx → EReal) (ix2 ⟨r.val, h⟩ n) else (0 : EReal) := by
  entry_read
  simp only [StableHlo.TRef.toBuf, StableHlo.TRef.ofBuf, cast_eq]
  pointwise
  have e : (FloatOps.sitofp (F := Ideal) FTy.bf16 0#32 : EReal) = 0 := by simp [FloatOps.sitofp]
  rw [e]

/-- `lora_a` transposed, with eight rows of zeros below it. -/
theorem host_v3 (r : Fin 16) (d : Fin 2304) :
    (StableHlo.after hostOps1_1 (StableHlo.after hostOps1 σ) (Proc.devRef .tc main_v3) : S16x2304.Idx → EReal) (ix2 r d)
      = if h : r.val < 8 then (σ (Proc.devRef .tc main_arg4) : S2304x8.Idx → EReal) (ix2 d ⟨r.val, h⟩) else (0 : EReal) := by
  entry_read
  simp only [StableHlo.TRef.toBuf, StableHlo.TRef.ofBuf, cast_eq]
  pointwise
  have e : (FloatOps.sitofp (F := Ideal) FTy.bf16 0#32 : EReal) = 0 := by simp [FloatOps.sitofp]
  rw [e]

/-- The group scales with a unit axis. -/
theorem host_v0 (k : Fin 18) (n : Fin 9216) :
    (StableHlo.after hostOps0 σ (Proc.devRef .tc main_v0) : S18x1x9216.Idx → EReal) (ix3 k 0 n)
      = (σ (Proc.devRef .tc main_arg3) : S18x9216.Idx → EReal) (ix2 k n) := by
  entry_read
  pointwise

/-- The first kernel's block: each column of a byte is a signed nibble times its group's scale. -/
theorem dequant_out (x0 : Vec Ideal S64x1024 .i8) (x1 : Vec Ideal S1x1x1024 .bf16) (n : Fin 1024) (d : Fin 128) :
    (out0_2 (F := Ideal) x0 x1 (ix2 n d) : EReal)
      = (FloatOps.sitofp (F := Ideal) .f32 (if d.val % 2 = 0 then lowNibble ((x0 : S64x1024.Idx → BitVec 8) (ix2 ⟨d.val / 2, by omega⟩ n))
            else highNibble ((x0 : S64x1024.Idx → BitVec 8) (ix2 ⟨d.val / 2, by omega⟩ n))) : EReal)
          * (x1 : S1x1x1024.Idx → EReal) (ix3 0 0 n) := by
  frame_out
  unfold_payloads
  pointwise
  split_ifs <;> rfl

end Host

variable (m : (ℓ : Loc nD τ sig) → Buf (Elt Ideal) ℓ) (ρ : Dev nD → PrngReg) (c : Dev nD)

/-- The arguments by coordinates: the input. -/
def argX (i : Fin 24) (t : Fin 768) (d : Fin 2304) : EReal := (m ((c : Thread nD τ).loc main_arg0) : S24x768x2304.Idx → EReal) (ix3 i t d)
/-- The gradient. -/
def argDy (i : Fin 24) (t : Fin 768) (n : Fin 9216) : EReal := (m ((c : Thread nD τ).loc main_arg1) : S24x768x9216.Idx → EReal) (ix3 i t n)
/-- The packed bytes. -/
def argP (j : Fin 1152) (n : Fin 9216) : BitVec 8 := (m ((c : Thread nD τ).loc main_arg2) : S1152x9216.Idx → BitVec 8) (ix2 j n)
/-- The group scales. -/
def argS (k : Fin 18) (n : Fin 9216) : EReal := (m ((c : Thread nD τ).loc main_arg3) : S18x9216.Idx → EReal) (ix2 k n)
/-- `lora_a`. -/
def argA (d : Fin 2304) (r : Fin 8) : EReal := (m ((c : Thread nD τ).loc main_arg4) : S2304x8.Idx → EReal) (ix2 d r)
/-- `lora_b`. -/
def argB (r : Fin 8) (n : Fin 9216) : EReal := (m ((c : Thread nD τ).loc main_arg5) : S8x9216.Idx → EReal) (ix2 r n)

/-- The main call's first operand is the input by token. -/
theorem in_v5 (T : Fin 18432) (d : Fin 2304) : (V7 m ρ c main_v5 : S18432x2304.Idx → EReal) (ix2 T d) = argX m c (seqOf T) (posOf T) d :=
  (host_v5 (W6 m ρ c) T d).trans (congrFun (W6_args m ρ c main_arg0 (by decide)) _)

/-- Its second operand is the gradient by token. -/
theorem in_v6 (T : Fin 18432) (n : Fin 9216) : (V7 m ρ c main_v6 : S18432x9216.Idx → EReal) (ix2 T n) = argDy m c (seqOf T) (posOf T) n :=
  (host_v6 (W6 m ρ c) T n).trans (congrFun (W6_args m ρ c main_arg1 (by decide)) _)

/-- The second adapter, with eight rows of zeros after its own. -/
theorem in_v4 (r : Fin 16) (n : Fin 9216) : (V7 m ρ c main_v4 : S16x9216.Idx → EReal) (ix2 r n)
    = if h : r.val < 8 then argB m c ⟨r.val, h⟩ n else (0 : EReal) := by
  refine (congrFun (W7_of m ρ c main_v4 (by decide)) _).trans ((host_v4 (W4 m ρ c) r n).trans ?_)
  split_ifs with h
  · exact congrFun (W4_args m ρ c main_arg5 (by decide)) _
  · rfl

/-- The first adapter transposed, with eight rows of zeros after its own. -/
theorem in_v3 (r : Fin 16) (d : Fin 2304) : (V7 m ρ c main_v3 : S16x2304.Idx → EReal) (ix2 r d)
    = if h : r.val < 8 then argA m c d ⟨r.val, h⟩ else (0 : EReal) := by
  refine (congrFun ((W7_of m ρ c main_v3 (by decide)).trans ((W6_of m ρ c main_v3 (by decide)).trans (W5_of m ρ c main_v3 (by decide)))) _).trans ((host_v3 (W2 m ρ c) r d).trans ?_)
  split_ifs with h
  · exact congrFun (W2_args m ρ c main_arg4 (by decide)) _
  · rfl

/-- The block scales, with an axis of one between. -/
theorem in_v0 (k : Fin 18) (n : Fin 9216) : (V1 m ρ c main_v0 : S18x1x9216.Idx → EReal) (ix3 k 0 n) = argS m c k n :=
  (host_v0 (W0 m ρ c) k n).trans (congrFun (W0_args m ρ c main_arg3 (by decide)) _)

/-- Which block of operand or result 0 a grid step has. -/
theorem idx0_0 : ∀ t : Fin cfg0.N, win0_0.index t = ![t.val / 9, t.val % 9] := (by decide +kernel : ∀ t : Fin grid0.N, _)
/-- Which block of operand or result 1 a grid step has. -/
theorem idx0_1 : ∀ t : Fin cfg0.N, win0_1.index t = ![t.val / 9, 0, t.val % 9] := (by decide +kernel : ∀ t : Fin grid0.N, _)
/-- Which block of operand or result 2 a grid step has. -/
theorem idx0_2 : ∀ t : Fin cfg0.N, win0_2.index t = ![t.val % 9, t.val / 9] := (by decide +kernel : ∀ t : Fin grid0.N, _)

/-- A block of the packed bytes. -/
theorem packed_blk (t : Fin cfg0.N) (j : Fin 64) (n : Fin 1024) :
    (iblk0 (V1 m ρ) c 0 t : S64x1024.Idx → BitVec 8) (ix2 j n)
      = argP m c ⟨t.val / 9 * 64 + j.val, by have h : t.val < 162 := t.isLt; omega⟩ ⟨t.val % 9 * 1024 + n.val, by omega⟩ := by
  have e : (iblk0 (V1 m ρ) c 0 t : S64x1024.Idx → BitVec 8) (ix2 j n)
      = (V1 m ρ c main_arg2 : S1152x9216.Idx → BitVec 8) (ix2 ⟨t.val / 9 * 64 + j.val, by have h : t.val < 162 := t.isLt; omega⟩ ⟨t.val % 9 * 1024 + n.val, by omega⟩) := by
    blk_ext [iblk0, idx0_0 t]
  exact e.trans (congrFun (W1_args m ρ c main_arg2 (by decide)) _)

/-- A block of the group scales. -/
theorem scale_blk (t : Fin cfg0.N) (n : Fin 1024) :
    (iblk0 (V1 m ρ) c 1 t : S1x1x1024.Idx → EReal) (ix3 0 0 n)
      = argS m c ⟨t.val / 9, by have h : t.val < 162 := t.isLt; omega⟩ ⟨t.val % 9 * 1024 + n.val, by omega⟩ := by
  have e : (iblk0 (V1 m ρ) c 1 t : S1x1x1024.Idx → EReal) (ix3 0 0 n)
      = (V1 m ρ c main_v0 : S18x1x9216.Idx → EReal) (ix3 ⟨t.val / 9, by have h : t.val < 162 := t.isLt; omega⟩ 0 ⟨t.val % 9 * 1024 + n.val, by omega⟩) := by
    blk_ext [iblk0, idx0_1 t]
  exact e.trans (in_v0 m ρ c _ _)

/-- The array's row of a block's row. -/
def wrow (t : Fin 162) (n : Fin 1024) : Fin 9216 := ⟨t.val % 9 * 1024 + n.val, by omega⟩
/-- The array's column of a block's column. -/
def wcol (t : Fin 162) (d : Fin 128) : Fin 2304 := ⟨t.val / 9 * 128 + d.val, by omega⟩

/-- A weight of the block at a grid point, from the coordinates in the block. -/
theorem weight_at (P : Fin 1152 → Fin 9216 → BitVec 8) (S : Fin 18 → Fin 9216 → EReal) (t : Fin 162) (n : Fin 1024) (d : Fin 128) :
    weight P S (wrow t n) (wcol t d)
      = (FloatOps.sitofp (F := Ideal) .f32 (if d.val % 2 = 0 then lowNibble (P ⟨t.val / 9 * 64 + d.val / 2, by omega⟩ ⟨t.val % 9 * 1024 + n.val, by omega⟩)
            else highNibble (P ⟨t.val / 9 * 64 + d.val / 2, by omega⟩ ⟨t.val % 9 * 1024 + n.val, by omega⟩)) : EReal)
          * S ⟨t.val / 9, by omega⟩ ⟨t.val % 9 * 1024 + n.val, by omega⟩ := by
  have e1 : (t.val / 9 * 128 + d.val) % 2 = d.val % 2 := by omega
  have e2 : (t.val / 9 * 128 + d.val) / 2 = t.val / 9 * 64 + d.val / 2 := by omega
  have e3 : (t.val / 9 * 128 + d.val) / 128 = t.val / 9 := by omega
  simp only [weight, wrow, wcol, e1, e2, e3]

/-- What the first kernel leaves in a block of the weight. -/
theorem weight_blk (t : Fin cfg0.N) (ht : t.val < 162) (n : Fin 1024) (d : Fin 128) :
    (out0_2 (F := Ideal) (iblk0 (V1 m ρ) c 0 t) (iblk0 (V1 m ρ) c 1 t) (ix2 n d) : EReal)
      = weight (argP m c) (argS m c) (wrow ⟨t.val, ht⟩ n) (wcol ⟨t.val, ht⟩ d) := by
  refine (dequant_out _ _ _ _).trans ?_
  rw [packed_blk m ρ c t ⟨d.val / 2, by omega⟩ n, scale_blk m ρ c t n]
  exact (weight_at (argP m c) (argS m c) ⟨t.val, ht⟩ n d).symm

/-- The weight array the first kernel leaves. -/
theorem arr_weight : (dat0 (V1 m ρ) c).arrAt 2 cfg0.N = fun y : S9216x2304.Idx => weight (argP m c) (argS m c) (y 0) (y 1) := by
  refine (dat0 (V1 m ρ) c).arrAt_eq_of_covers 2 _ (by decide +kernel) fun t hf y => ?_
  blk_simp
  rw [after0_2]
  have ht : t.val < 162 := t.isLt
  have e : (win0_2.blk t).view.emb y = (ix2 (wrow ⟨t.val, ht⟩ (y 0)) (wcol ⟨t.val, ht⟩ (y 1)) : S9216x2304.Idx) := by
    blk_ext [wrow, wcol, idx0_2 t]
  rw [e]
  exact (congrArg (out0_2 (F := Ideal) (iblk0 (V1 m ρ) c 0 t) (iblk0 (V1 m ρ) c 1 t)) (by blk_ext [] : y = (ix2 (y 0) (y 1) : S1024x128.Idx))).trans
    (weight_blk m ρ c t ht (y 0) (y 1))

/-- The weight the second kernel reads. -/
theorem in_v1 (n : Fin 9216) (d : Fin 2304) : (V7 m ρ c main_v1 : S9216x2304.Idx → EReal) (ix2 n d) = weight (argP m c) (argS m c) n d :=
  congrFun ((W7_of m ρ c main_v1 (by decide)).trans ((W6_of m ρ c main_v1 (by decide)).trans ((W5_of m ρ c main_v1 (by decide)).trans
    ((W4_of m ρ c main_v1 (by decide)).trans ((W3_of m ρ c main_v1 (by decide)).trans ((W2_arr m ρ c 2).trans (arr_weight m ρ c))))))) _

end Cert.KernelIdeal.Val
-- ==== Proof.Operands.lean ====
module

public import proofs.«01_k».proof.Proof.Entry

/-!
The second kernel's arrays over operands given by coordinates are the results of the specification.
-/

@[expose] public section

set_option maxRecDepth 16384
open Idealize.ShloMosaic Idealize.ShloMosaic.TcCoe Idealize.SL.Sem
open Idealize.ShloMosaic.Pipeline (Dat)
namespace Cert.KernelIdeal.Val
open Cert.KernelIdeal Cert.KernelIdeal.Gen Cert.Quant

/-- A sum over sixteen ranks whose last eight terms are zero. -/
theorem sum_ranks (f : Fin 16 → EReal) (g : Fin 8 → EReal) (h : ∀ r : Fin 16, f r = if h : r.val < 8 then g ⟨r.val, h⟩ else 0) :
    ∑ r, f r = ∑ r, g r := by
  rw [show ∑ r, f r = _ from Fin.sum_univ_add (a := 8) (b := 8) f]
  have h1 : ∀ r : Fin 8, f (Fin.castAdd 8 r) = g r := fun r => by rw [h]; simp
  have h2 : ∀ r : Fin 8, f (Fin.natAdd 8 r) = 0 := fun r => by rw [h]; simp
  simp only [h1, h2, Finset.sum_const_zero, add_zero]

section
variable {dyA : S18432x9216.Idx → EReal} {xA : S18432x2304.Idx → EReal} {wA : S9216x2304.Idx → EReal}
  {bA : S16x9216.Idx → EReal} {aA : S16x2304.Idx → EReal}
variable {x : Fin 24 → Fin 768 → Fin 2304 → EReal} {dy : Fin 24 → Fin 768 → Fin 9216 → EReal}
  {p : Fin 1152 → Fin 9216 → BitVec 8} {s : Fin 18 → Fin 9216 → EReal} {a : Fin 2304 → Fin 8 → EReal}
  {b : Fin 8 → Fin 9216 → EReal}
variable (hdy : ∀ T n, dyA (ix2 T n) = dy (seqOf T) (posOf T) n) (hx : ∀ T d, xA (ix2 T d) = x (seqOf T) (posOf T) d)
  (hw : ∀ n d, wA (ix2 n d) = weight p s n d)
  (hb : ∀ (r : Fin 16) n, bA (ix2 r n) = if h : r.val < 8 then b ⟨r.val, h⟩ n else 0)
  (ha : ∀ (r : Fin 16) d, aA (ix2 r d) = if h : r.val < 8 then a d ⟨r.val, h⟩ else 0)

include hdy hb in
/-- `g` at a rank: zero at the padded ones. -/
theorem gA_eq (T : Fin 18432) (r : Fin 16) :
    gA bA dyA T r = if h : r.val < 8 then resG dy b (seqOf T) (posOf T) ⟨r.val, h⟩ else 0 := by
  unfold gA resG
  split_ifs with h
  · exact Finset.sum_congr rfl fun n _ => by rw [hb, hdy, dif_pos h, mul_comm]
  · exact Finset.sum_eq_zero fun n _ => by rw [hb, dif_neg h, zero_mul]

include hx ha in
/-- `xa` at a rank: zero at the padded ones. -/
theorem xaA_eq (T : Fin 18432) (r : Fin 16) :
    xaA aA xA T r = if h : r.val < 8 then resXa x a (seqOf T) (posOf T) ⟨r.val, h⟩ else 0 := by
  unfold xaA resXa
  split_ifs with h
  · exact Finset.sum_congr rfl fun n _ => by rw [ha, hx, dif_pos h, mul_comm]
  · exact Finset.sum_eq_zero fun n _ => by rw [ha, dif_neg h, zero_mul]

include hdy hx hb in
/-- `d_lora_a` at one of the eight ranks. -/
theorem daA_eq (r : Fin 16) (h : r.val < 8) (d : Fin 2304) : daA bA dyA xA (ix2 r d) = resDa x dy b d ⟨r.val, h⟩ := by
  unfold resDa
  refine congrArg (fun z => two * z) (Finset.sum_congr rfl fun T _ => ?_)
  show gA bA dyA T r * xA (ix2 T d) = _
  rw [gA_eq hdy hb, dif_pos h, hx, mul_comm]

include hdy hx ha in
/-- `d_lora_b` at one of the eight ranks. -/
theorem dbA_eq (r : Fin 16) (h : r.val < 8) (n : Fin 9216) : dbA aA xA dyA (ix2 r n) = resDb x dy a ⟨r.val, h⟩ n := by
  unfold resDb
  refine congrArg (fun z => two * z) (Finset.sum_congr rfl fun T _ => ?_)
  show xaA aA xA T r * dyA (ix2 T n) = _
  rw [xaA_eq hx ha, dif_pos h, hdy]

include hdy hw hb ha in
/-- `dx`. -/
theorem dxA_eq (T : Fin 18432) (d : Fin 2304) : dxA dyA wA bA aA (ix2 T d) = resDx dy p s a b (seqOf T) (posOf T) d := by
  have e : (fun n => dyA (ix2 T n)) = dy (seqOf T) (posOf T) := funext fun n => hdy T n
  show (∑ n, codeOf (fun n => dyA (ix2 T n)) n * wA (ix2 n d)) * scaleOf (fun n => dyA (ix2 T n)) + two * ∑ r : Fin 16, gA bA dyA T r * aA (ix2 r d) = _
  rw [e]
  unfold resDx
  refine congrArg₂ (fun u v => u * scaleOf (dy (seqOf T) (posOf T)) + two * v) (Finset.sum_congr rfl fun n _ => by rw [hw]) ?_
  refine sum_ranks _ _ fun r => ?_
  rw [gA_eq hdy hb, ha]
  split_ifs with h
  · rfl
  · rw [zero_mul]

end

end Cert.KernelIdeal.Val
-- ==== Proof.Out.lean ====
module

public import proofs.«01_k».proof.Proof.Operands

/-!
The seven results the kernel's run ends with, by coordinates, are the results of the specification.
-/

@[expose] public section

set_option maxRecDepth 16384
open Idealize.ShloMosaic Idealize.ShloMosaic.TcCoe Idealize.SL.Sem
open Idealize.ShloMosaic.Pipeline (Dat)
namespace Cert.KernelIdeal.Val
open Cert.KernelIdeal Cert.KernelIdeal.Gen Cert.Quant

section Host
variable (σ : Valuation τ sig (Elt Ideal))

/-- The first result by sequence and position is the call's by token. -/
theorem host_v8 (i : Fin 24) (t : Fin 768) (d : Fin 2304) :
    (StableHlo.after hostOps2 σ (Proc.devRef .tc main_v8) : S24x768x2304.Idx → EReal) (ix3 i t d)
      = (σ (Proc.devRef .tc main_v7_0) : S18432x2304.Idx → EReal) (ix2 (tokOf i t) d) := by
  entry_read
  pointwise
  rfl

/-- The second result is the transpose of the first eight rows of the call's. -/
theorem host_v10 (d : Fin 2304) (r : Fin 8) :
    (StableHlo.after hostOps2 σ (Proc.devRef .tc main_v10) : S2304x8.Idx → EReal) (ix2 d r)
      = (σ (Proc.devRef .tc main_v7_1) : S16x2304.Idx → EReal) (ix2 (r.castLE (by decide)) d) := by
  entry_read
  pointwise
  rfl

/-- The third result is the first eight rows of the call's. -/
theorem host_v11 (r : Fin 8) (n : Fin 9216) :
    (StableHlo.after hostOps2 σ (Proc.devRef .tc main_v11) : S8x9216.Idx → EReal) (ix2 r n)
      = (σ (Proc.devRef .tc main_v7_2) : S16x9216.Idx → EReal) (ix2 (r.castLE (by decide)) n) := by
  entry_read
  pointwise
  rfl

/-- The fourth result by sequence and position is the call's by token. -/
theorem host_v12 (i : Fin 24) (t : Fin 768) (r : Fin 8) :
    (StableHlo.after hostOps2 σ (Proc.devRef .tc main_v12) : S24x768x8.Idx → EReal) (ix3 i t r)
      = (σ (Proc.devRef .tc main_v7_3) : S18432x8.Idx → EReal) (ix2 (tokOf i t) r) := by
  entry_read
  pointwise
  rfl

/-- The fifth result by sequence and position is the call's by token. -/
theorem host_v13 (i : Fin 24) (t : Fin 768) (r : Fin 8) :
    (StableHlo.after hostOps2 σ (Proc.devRef .tc main_v13) : S24x768x8.Idx → EReal) (ix3 i t r)
      = (σ (Proc.devRef .tc main_v7_4) : S18432x8.Idx → EReal) (ix2 (tokOf i t) r) := by
  entry_read
  pointwise
  rfl

/-- The codes by sequence and position are the call's by token. -/
theorem host_v14 (i : Fin 24) (t : Fin 768) (n : Fin 9216) :
    (StableHlo.after hostOps2 σ (Proc.devRef .tc main_v14) : S24x768x9216.Idx → EReal) (ix3 i t n)
      = (σ (Proc.devRef .tc main_v7_5) : S18432x9216.Idx → EReal) (ix2 (tokOf i t) n) := by
  entry_read
  pointwise
  rfl

/-- The scales by sequence and position are the call's by block and token in it. -/
theorem host_v15 (i : Fin 24) (t : Fin 768) :
    (StableHlo.after hostOps2 σ (Proc.devRef .tc main_v15) : S24x768.Idx → EReal) (ix2 i t)
      = (σ (Proc.devRef .tc main_v7_6) : S72x1x256.Idx → EReal) (ix3 ⟨i.val * 3 + t.val / 256, by omega⟩ 0 ⟨t.val % 256, by omega⟩) := by
  entry_read
  pointwise

end Host

variable (m : (ℓ : Loc nD τ sig) → Buf (Elt Ideal) ℓ) (ρ : Dev nD → PrngReg) (c : Dev nD)

/-- The rows of the gradient are small enough for the scale's exponent to be found. -/
abbrev Small : Prop := ∀ (i : Fin 24) (t : Fin 768), ratio (argDy m c i t) < (((2 : ℝ) ^ (126 : ℤ) : ℝ) : EReal)

/-- A token's row of the call's second operand is the gradient's row. -/
theorem row_v6 (T : Fin 18432) : (fun n => (V7 m ρ c main_v6 : S18432x9216.Idx → EReal) (ix2 T n)) = argDy m c (seqOf T) (posOf T) :=
  funext fun n => in_v6 m ρ c T n

variable {m c}

/-- The rows of the call's operand have ratios as small as the gradient's. -/
theorem small_rows (h : Small m c) (T : Fin 18432) :
    ratio (fun n => (V7 m ρ c main_v6 : S18432x9216.Idx → EReal) (ix2 T n)) < (((2 : ℝ) ^ (126 : ℤ) : ℝ) : EReal) := by
  rw [row_v6]
  exact h _ _

/-- `dx`. -/
theorem out_v8 (h : Small m c) (i : Fin 24) (t : Fin 768) (d : Fin 2304) :
    (W9 m ρ c (Proc.devRef .tc main_v8) : S24x768x2304.Idx → EReal) (ix3 i t d)
      = resDx (argDy m c) (argP m c) (argS m c) (argA m c) (argB m c) i t d := by
  refine (host_v8 (W8 m ρ c) i t d).trans ((congrFun ((W8_arr m ρ c 5).trans (arr5 (V7 m ρ) c (small_rows ρ h))) _).trans ?_)
  refine (dxA_eq (in_v6 m ρ c) (in_v1 m ρ c) (in_v4 m ρ c) (in_v3 m ρ c) (tokOf i t) d).trans ?_
  rw [seqOf_tokOf, posOf_tokOf]

variable (m c) in
/-- `d_lora_a`. -/
theorem out_v10 (d : Fin 2304) (r : Fin 8) :
    (W9 m ρ c (Proc.devRef .tc main_v10) : S2304x8.Idx → EReal) (ix2 d r) = resDa (argX m c) (argDy m c) (argB m c) d r :=
  (host_v10 (W8 m ρ c) d r).trans ((congrFun ((W8_arr m ρ c 6).trans (arr6 (V7 m ρ) c)) _).trans
    (daA_eq (in_v6 m ρ c) (in_v5 m ρ c) (in_v4 m ρ c) (r.castLE (by decide)) r.isLt d))

variable (m c) in
/-- `d_lora_b`. -/
theorem out_v11 (r : Fin 8) (n : Fin 9216) :
    (W9 m ρ c (Proc.devRef .tc main_v11) : S8x9216.Idx → EReal) (ix2 r n) = resDb (argX m c) (argDy m c) (argA m c) r n :=
  (host_v11 (W8 m ρ c) r n).trans ((congrFun ((W8_arr m ρ c 7).trans (arr7 (V7 m ρ) c)) _).trans
    (dbA_eq (in_v6 m ρ c) (in_v5 m ρ c) (in_v3 m ρ c) (r.castLE (by decide)) r.isLt n))

variable (m c) in
/-- `g`. -/
theorem out_v12 (i : Fin 24) (t : Fin 768) (r : Fin 8) :
    (W9 m ρ c (Proc.devRef .tc main_v12) : S24x768x8.Idx → EReal) (ix3 i t r) = resG (argDy m c) (argB m c) i t r := by
  refine (host_v12 (W8 m ρ c) i t r).trans ((congrFun ((W8_arr m ρ c 8).trans (arr8 (V7 m ρ) c)) _).trans ?_)
  refine (gA_eq (in_v6 m ρ c) (in_v4 m ρ c) (tokOf i t) (r.castLE (by decide))).trans ?_
  rw [dif_pos (show (r.castLE (by decide) : Fin 16).val < 8 from r.isLt), seqOf_tokOf, posOf_tokOf]
  rfl

variable (m c) in
/-- `xa`. -/
theorem out_v13 (i : Fin 24) (t : Fin 768) (r : Fin 8) :
    (W9 m ρ c (Proc.devRef .tc main_v13) : S24x768x8.Idx → EReal) (ix3 i t r) = resXa (argX m c) (argA m c) i t r := by
  refine (host_v13 (W8 m ρ c) i t r).trans ((congrFun ((W8_arr m ρ c 9).trans (arr9 (V7 m ρ) c)) _).trans ?_)
  refine (xaA_eq (in_v5 m ρ c) (in_v3 m ρ c) (tokOf i t) (r.castLE (by decide))).trans ?_
  rw [dif_pos (show (r.castLE (by decide) : Fin 16).val < 8 from r.isLt), seqOf_tokOf, posOf_tokOf]
  rfl

/-- The codes. -/
theorem out_v14 (h : Small m c) (i : Fin 24) (t : Fin 768) (n : Fin 9216) :
    (W9 m ρ c (Proc.devRef .tc main_v14) : S24x768x9216.Idx → EReal) (ix3 i t n) = codeOf (argDy m c i t) n := by
  refine (host_v14 (W8 m ρ c) i t n).trans ((congrFun ((W8_arr m ρ c 10).trans (arr10 (V7 m ρ) c (small_rows ρ h))) _).trans ?_)
  refine (congrArg (fun v => codeOf v n) (row_v6 m ρ c (tokOf i t))).trans ?_
  rw [seqOf_tokOf, posOf_tokOf]

/-- The scales. -/
theorem out_v15 (h : Small m c) (i : Fin 24) (t : Fin 768) :
    (W9 m ρ c (Proc.devRef .tc main_v15) : S24x768.Idx → EReal) (ix2 i t) = scaleOf (argDy m c i t) := by
  refine (host_v15 (W8 m ρ c) i t).trans ((congrFun ((W8_arr m ρ c 11).trans (arr11 (V7 m ρ) c (small_rows ρ h))) _).trans ?_)
  have e : (tok ⟨i.val * 3 + t.val / 256, show _ < 72 by omega⟩ ⟨t.val % 256, by omega⟩ : Fin 18432) = tokOf i t :=
    Fin.ext (by simp only [tok, tokOf]; omega)
  refine (congrArg (fun T => scaleOf fun n => (V7 m ρ c main_v6 : S18432x9216.Idx → EReal) (ix2 T n)) e).trans ?_
  refine (congrArg scaleOf (row_v6 m ρ c (tokOf i t))).trans ?_
  rw [seqOf_tokOf, posOf_tokOf]

end Cert.KernelIdeal.Val
-- ==== Proof.RefScale.lean ====
module

public import proofs.«01_k».proof.Proof.Results
public import proofs.«01_k».proof.Proof.Gen.ReferenceIdeal.Read

/-!
The reference's row statistics: its greatest magnitude, the least exponent above the ratio, the scale and the scale's
inverse are those of the specification.
-/

@[expose] public section

set_option maxRecDepth 65536
open Idealize.ShloMosaic Idealize.ShloMosaic.TcCoe Idealize.SL.Sem
open Idealize.ShloMosaic.Pipeline (Dat)
namespace Cert.ReferenceIdeal.Val
open Cert.ReferenceIdeal Cert.ReferenceIdeal.Gen Cert.Quant Cert.ReferenceIdeal.Value

/-- A row's greatest magnitude, as the reference computes it. -/
noncomputable def refAmax (X : FVec Ideal S18432x9216 .bf16) : FVec Ideal S18432 .f32 :=
  Host.reduce FloatOps.maximumf (Host.absf (extf .f32 X bitsLt_bf16_f32)) (constant S_ .f32 0xFF800000#32) reducesTo_S18432x9216_S18432_d1 h_S_

/-- The reduction over a row is its greatest magnitude. -/
theorem refAmax_eq (X : FVec Ideal S18432x9216 .bf16) (T : Fin 18432) : (refAmax X (ix1 T) : EReal) = amax (fun n => X (ix2 T n)) := by
  unfold refAmax
  pointwise
  rw [bot_f32]
  rfl

/-- The exponents -125 to 128. -/
noncomputable def refExps : FVec Ideal S254 .f32 := sitofp .f32 (addi (broadcastInDim S254 ![] bcast_S_S254 (constantI S_ 32 4294967171#32)) (iotaInDim S254 32 0))

/-- The exponents that are tried, by index. -/
theorem refExps_eq (k : Fin 254) : (refExps (ix1 k) : EReal) = ((((k.val : ℤ) - 125 : ℤ) : ℝ) : EReal) := by
  unfold refExps
  pointwise
  have e : ∀ k : Fin 254, (IntOp.addi (4294967171#32) (BitVec.ofNat 32 k.val)).toInt = (k.val : ℤ) - 125 := by decide +kernel
  rw [← e k]
  rfl

/-- Two to an integer. -/
theorem pow_two (z : ℤ) : Ideal.pow (Ideal.ofBits .f32 0x40000000#32) (((z : ℝ)) : EReal) = (((2 : ℝ) ^ z : ℝ) : EReal) := by
  rw [two_f32]
  show ((Real.rpow 2 (z : ℝ) : ℝ) : EReal) = _
  exact congrArg _ (Real.rpow_intCast 2 z)

/-- The powers of two at those exponents. -/
noncomputable def refPows : FVec Ideal S254 .f32 := Host.powf (broadcastInDim S254 ![] bcast_S_S254 (constant S_ .f32 0x40000000#32)) refExps

/-- Their powers of two. -/
theorem refPows_eq (k : Fin 254) : (refPows (ix1 k) : EReal) = (((2 : ℝ) ^ ((k.val : ℤ) - 125) : ℝ) : EReal) := by
  unfold refPows
  pointwise
  rw [refExps_eq, pow_two]

/-- The least of those exponents whose power of two is above the ratio. -/
noncomputable def refLeast (R : FVec Ideal S18432 .f32) : FVec Ideal S18432 .f32 :=
  Host.reduce FloatOps.minimumf (select (cmpf .olt (broadcastInDim S18432x254 ![0, 1] bcast_S18432x1_S18432x254_0_1 (broadcastInDim S18432x1 ![0] bcast_S18432_S18432x1_0 R)) (broadcastInDim S18432x254 ![0, 1] bcast_S1x254_S18432x254_0_1 (broadcastInDim S1x254 ![1] bcast_S254_S1x254_1 refPows))) (broadcastInDim S18432x254 ![0, 1] bcast_S1x254_S18432x254_0_1 (broadcastInDim S1x254 ![1] bcast_S254_S1x254_1 refExps)) (broadcastInDim S18432x254 ![] bcast_S_S18432x254 (constant S_ .f32 0x7F800000#32))) (constant S_ .f32 0x7F800000#32) reducesTo_S18432x254_S18432_d1 h_S_

/-- The least exponent whose power is above the ratio, as an infimum. -/
theorem refLeast_inf (R : FVec Ideal S18432 .f32) (T : Fin 18432) : (refLeast R (ix1 T) : EReal)
    = Finset.univ.inf fun k : Fin 254 => if (R (ix1 T) : EReal) < (((2 : ℝ) ^ ((k.val : ℤ) - 125) : ℝ) : EReal) then ((((k.val : ℤ) - 125 : ℤ) : ℝ) : EReal) else ⊤ := by
  unfold refLeast
  pointwise
  simp only [top_f32, refPows_eq, refExps_eq]
  rfl

/-- It is the exponent of the ratio. -/
theorem least_eq (r : EReal) (hlo : ¬ r < (((2 : ℝ) ^ (-126 : ℤ) : ℝ) : EReal)) (hhi : r < (((2 : ℝ) ^ (126 : ℤ) : ℝ) : EReal)) :
    (Finset.univ.inf fun k : Fin 254 => if r < (((2 : ℝ) ^ ((k.val : ℤ) - 125) : ℝ) : EReal) then ((((k.val : ℤ) - 125 : ℤ) : ℝ) : EReal) else ⊤)
      = ((frexpOf r : ℝ) : EReal) := by
  obtain ⟨h1, h2, h3, h4⟩ := frexp_binade r hlo hhi
  apply le_antisymm
  · obtain ⟨k, hk⟩ : ∃ k : Fin 254, (k.val : ℤ) - 125 = frexpOf r := ⟨⟨(frexpOf r + 125).toNat, by omega⟩, by simp only; omega⟩
    refine (Finset.inf_le (Finset.mem_univ k)).trans ?_
    simp only [hk, if_pos h2, le_refl]
  · refine Finset.le_inf fun k _ => ?_
    split_ifs with h
    · have h5 : ((2 : ℝ) ^ (frexpOf r - 1) : ℝ) < (2 : ℝ) ^ ((k.val : ℤ) - 125) := EReal.coe_lt_coe_iff.mp (h1.trans_lt h)
      have h6 : frexpOf r - 1 < (k.val : ℤ) - 125 := (zpow_lt_zpow_iff_right₀ (by norm_num)).mp h5
      exact EReal.coe_le_coe_iff.mpr (by exact_mod_cast (by omega : frexpOf r ≤ (k.val : ℤ) - 125))
    · exact le_top

/-- The row's exponent, as the reference computes it from the greatest magnitude. -/
noncomputable def refExp (A : FVec Ideal S18432 .f32) : FVec Ideal S18432 .f32 :=
  (select (cmpf .oeq A (broadcastInDim S18432 ![] bcast_S_S18432 (constant S_ .f32 0x00000000#32))) (broadcastInDim S18432 ![] bcast_S_S18432 (constant S_ .f32 0x00000000#32)) (select (cmpf .olt (mulf A (broadcastInDim S18432 ![] bcast_S_S18432 (constant S_ .f32 0x37924925#32))) (broadcastInDim S18432 ![] bcast_S_S18432 (constant S_ .f32 0x00800000#32))) (broadcastInDim S18432 ![] bcast_S_S18432 (constant S_ .f32 0x00000000#32)) (refLeast (mulf A (broadcastInDim S18432 ![] bcast_S_S18432 (constant S_ .f32 0x37924925#32))))))

/-- The least normal float32. -/
theorem normal_f32 : Ideal.ofBits .f32 0x00800000#32 = (((2 : ℝ) ^ (-126 : ℤ) : ℝ) : EReal) := by
  simp [Ideal.ofBits, Ideal.ieee, -EReal.coe_mul]
  norm_num

/-- The exponent that is found is `Spec`'s. -/
theorem refExp_eq (A : FVec Ideal S18432 .f32) (T : Fin 18432) (v : Fin 9216 → EReal) (hA : (A (ix1 T) : EReal) = amax v)
    (hv : ratio v < (((2 : ℝ) ^ (126 : ℤ) : ℝ) : EReal)) : (refExp A (ix1 T) : EReal) = ((frexpOf (ratio v) : ℝ) : EReal) := by
  unfold refExp
  pointwise
  have hR : ((mulf A (broadcastInDim S18432 ![] bcast_S_S18432 (constant (F := Ideal) S_ FTy.f32 932333861#32)) : FVec Ideal S18432 .f32) (ix1 T) : EReal) = ratio v := by
    pointwise
    rw [hA]
    rfl
  rw [refLeast_inf, hR, hA, normal_f32, show amax v * Ideal.ofBits FTy.f32 932333861#32 = ratio v from rfl]
  have small : ratio v < (((2 : ℝ) ^ (-126 : ℤ) : ℝ) : EReal) → (0 : EReal) = ((frexpOf (ratio v) : ℝ) : EReal) := fun h => by
    unfold frexpOf
    rw [if_pos h]
    simp
  split_ifs with h0 h1
  · refine small ?_
    unfold ratio
    rw [h0, zero_mul]
    exact_mod_cast (by positivity : (0 : ℝ) < (2 : ℝ) ^ (-126 : ℤ))
  · exact small h1
  · exact least_eq _ h1 hv

/-- The scale. -/
theorem refScale_eq (A : FVec Ideal S18432 .f32) (T : Fin 18432) (v : Fin 9216 → EReal) (hA : (A (ix1 T) : EReal) = amax v)
    (hv : ratio v < (((2 : ℝ) ^ (126 : ℤ) : ℝ) : EReal)) :
    ((Host.powf (broadcastInDim S18432 ![] bcast_S_S18432 (constant (F := Ideal) S_ .f32 0x40000000#32)) (refExp A) : FVec Ideal S18432 .f32) (ix1 T) : EReal) = scaleOf v := by
  pointwise
  rw [refExp_eq A T v hA hv, pow_two]
  rfl

/-- The scale's inverse. -/
theorem refInv_eq (A : FVec Ideal S18432 .f32) (T : Fin 18432) (v : Fin 9216 → EReal) (hA : (A (ix1 T) : EReal) = amax v)
    (hv : ratio v < (((2 : ℝ) ^ (126 : ℤ) : ℝ) : EReal)) :
    ((Host.powf (broadcastInDim S18432 ![] bcast_S_S18432 (constant (F := Ideal) S_ .f32 0x40000000#32)) (Host.negf (refExp A)) : FVec Ideal S18432 .f32) (ix1 T) : EReal) = invOf v := by
  pointwise
  rw [refExp_eq A T v hA hv]
  have e : (-(((frexpOf (ratio v) : ℤ) : ℝ) : EReal)) = (((-frexpOf (ratio v) : ℤ) : ℝ) : EReal) := by
    rw [← EReal.coe_neg]
    push_cast
    rfl
  refine (congrArg (Ideal.pow (Ideal.ofBits .f32 0x40000000#32)) e).trans ?_
  rw [pow_two]
  rfl

variable (m : (ℓ : Loc nD τ sig) → Buf (Elt Ideal) ℓ) (c : Dev nD)

/-- The gradient, its sequences joined, as the reference reads it. -/
noncomputable def refDy : FVec Ideal S18432x9216 .bf16 := shapeCast _ (m ((c.tc : Thread nD τ).loc main_arg1)) shapeCasts_S24x768x9216_S18432x9216

/-- The scales the reference writes are two to the exponents. -/
theorem v27_eq : exitV m c (Proc.devRef .tc main_v27) =
   Host.powf (broadcastInDim S18432 ![] bcast_S_S18432 (constant S_ .f32 0x40000000#32)) (refExp (refAmax (refDy m c))) :=
  exit_main_v27 m c

set_option maxHeartbeats 2000000 in
/-- The array that is cast is the clipped product of the gradient and the inverse scales. -/
theorem v34_eq : V m c main_v34 =
    minimumf (broadcastInDim S18432x9216 ![] bcast_S_S18432x9216 (constant S_ .f32 0x47600000#32))
      (maximumf (broadcastInDim S18432x9216 ![] bcast_S_S18432x9216 (constant S_ .f32 0xC7600000#32))
        (mulf (extf .f32 (refDy m c) bitsLt_bf16_f32) (broadcastInDim S18432x9216 ![0, 1] bcast_S18432x1_S18432x9216_0_1 (broadcastInDim S18432x1 ![0] bcast_S18432_S18432x1_0
          (Host.powf (broadcastInDim S18432 ![] bcast_S_S18432 (constant S_ .f32 0x40000000#32)) (Host.negf (refExp (refAmax (refDy m c))))))))) := by
  show Gen.V0 m c (Proc.devRef .tc main_v34) = _
  simp only [Gen.V0, Gen.hostOps0, Gen.hostOps0_1, Gen.hostOps0_2, Gen.hostOps0_3, Gen.hostOps0_4, Gen.hostOps0_5, Gen.hostOps0_6, Gen.hostOps0_7, StableHlo.TRef.binary, StableHlo.TRef.ternary, StableHlo.TRef.unary, StableHlo.TRef.toBuf, StableHlo.TRef.ofBuf, cast_eq, List.flatten_cons, List.flatten_nil, List.append_nil, List.cons_append, List.nil_append]
  after_results_simp <;> rfl

end Cert.ReferenceIdeal.Val
-- ==== Proof.RefRegion.lean ====
module

public import proofs.«01_k».proof.Proof.RefScale

/-!
The reference's rounding call leaves the codes of the specification in both of its arrays, and the scales are those of
the specification.
-/

@[expose] public section

set_option maxRecDepth 65536
open Idealize.ShloMosaic Idealize.ShloMosaic.TcCoe Idealize.SL.Sem
open Idealize.ShloMosaic.Pipeline (Dat)
namespace Cert.ReferenceIdeal.Val
open Cert.ReferenceIdeal Cert.ReferenceIdeal.Gen Cert.Quant Cert.ReferenceIdeal.Value

variable (m : (ℓ : Loc nD τ sig) → Buf (Elt Ideal) ℓ) (c : Dev nD)

/-- The arguments by coordinates: the input. -/
def argX (i : Fin 24) (t : Fin 768) (d : Fin 2304) : EReal := (m ((c : Thread nD τ).loc main_arg0) : S24x768x2304.Idx → EReal) (ix3 i t d)
/-- The gradient. -/
def argDy (i : Fin 24) (t : Fin 768) (n : Fin 9216) : EReal := (m ((c : Thread nD τ).loc main_arg1) : S24x768x9216.Idx → EReal) (ix3 i t n)
/-- The packed bytes. -/
def argP (j : Fin 1152) (n : Fin 9216) : BitVec 8 := (m ((c : Thread nD τ).loc main_arg2) : S1152x9216.Idx → BitVec 8) (ix2 j n)
/-- The group scales. -/
def argS (k : Fin 18) (n : Fin 9216) : EReal := (m ((c : Thread nD τ).loc main_arg3) : S18x9216.Idx → EReal) (ix2 k n)
/-- `lora_a`. -/
def argA (d : Fin 2304) (r : Fin 8) : EReal := (m ((c : Thread nD τ).loc main_arg4) : S2304x8.Idx → EReal) (ix2 d r)
/-- `lora_b`. -/
def argB (r : Fin 8) (n : Fin 9216) : EReal := (m ((c : Thread nD τ).loc main_arg5) : S8x9216.Idx → EReal) (ix2 r n)

/-- Joining the sequences, read at an index. -/
theorem join_at (X : FVec Ideal S24x768x9216 .bf16) (T : Fin 18432) (n : Fin 9216) :
    (shapeCast S18432x9216 X shapeCasts_S24x768x9216_S18432x9216 (ix2 T n) : EReal) = X (ix3 (seqOf T) (posOf T) n) := by
  pointwise
  rfl

/-- The gradient by token. -/
theorem refDy_eq (T : Fin 18432) (n : Fin 9216) : (refDy m c (ix2 T n) : EReal) = argDy m c (seqOf T) (posOf T) n := by
  unfold refDy argDy
  exact join_at _ T n

/-- A token's row of it. -/
theorem refDy_row (T : Fin 18432) : (fun n => (refDy m c (ix2 T n) : EReal)) = argDy m c (seqOf T) (posOf T) :=
  funext fun n => refDy_eq m c T n

/-- The greatest magnitude of a token's row. -/
theorem amax_row (T : Fin 18432) : (refAmax (refDy m c) (ix1 T) : EReal) = amax (argDy m c (seqOf T) (posOf T)) :=
  (refAmax_eq _ T).trans (congrArg amax (refDy_row m c T))

/-- The rows of the gradient are small enough for the scale's exponent to be found. -/
abbrev Small : Prop := ∀ (i : Fin 24) (t : Fin 768), ratio (argDy m c i t) < (((2 : ℝ) ^ (126 : ℤ) : ℝ) : EReal)

variable {m c}

/-- The scales. -/
theorem scale_at (h : Small m c) (T : Fin 18432) :
    (exitV m c (Proc.devRef .tc main_v27) : S18432.Idx → EReal) (ix1 T) = scaleOf (argDy m c (seqOf T) (posOf T)) :=
  (congrFun (v27_eq m c) (ix1 T)).trans (refScale_eq _ T _ (amax_row m c T) (h _ _))

/-- What the rounding call is given. -/
theorem clipped_at (h : Small m c) (T : Fin 18432) (n : Fin 9216) :
    (V m c main_v34 : S18432x9216.Idx → EReal) (ix2 T n) = codeOf (argDy m c (seqOf T) (posOf T)) n := by
  refine (congrFun (v34_eq m c) (ix2 T n)).trans ?_
  have hi := refInv_eq _ T _ (amax_row m c T) (h _ _)
  generalize (Host.powf (broadcastInDim S18432 ![] bcast_S_S18432 (constant (F := Ideal) S_ .f32 0x40000000#32)) (Host.negf (refExp (refAmax (refDy m c)))) : FVec Ideal S18432 .f32) = I at hi ⊢
  pointwise
  rw [hi, refDy_eq, hi_f32, lo_f32]
  rfl

/-- The cast to the codes' format is the identity over the extended reals. -/
theorem round_codes (x0 : Vec Ideal S18432x9216 .f32) (y : S18432x9216.Idx) : (out0_1 (F := Ideal) x0 y : EReal) = x0 y := by
  frame_out
  unfold_payloads
  pointwise

/-- So is the cast back. -/
theorem round_values (x0 : Vec Ideal S18432x9216 .f32) (y : S18432x9216.Idx) : (out0_2 (F := Ideal) x0 y : EReal) = x0 y := by
  frame_out
  unfold_payloads
  pointwise

/-- Which block of operand or result 0 a grid step has. -/
theorem ix0_0 : ∀ t : Fin cfg0.N, win0_0.index t = ![0, 0] := (by decide +kernel : ∀ t : Fin grid0.N, _)
/-- Which block of operand or result 1 a grid step has. -/
theorem ix0_1 : ∀ t : Fin cfg0.N, win0_1.index t = ![0, 0] := (by decide +kernel : ∀ t : Fin grid0.N, _)
/-- Which block of operand or result 2 a grid step has. -/
theorem ix0_2 : ∀ t : Fin cfg0.N, win0_2.index t = ![0, 0] := (by decide +kernel : ∀ t : Fin grid0.N, _)

variable (m c)

/-- The cast's block is the whole array. -/
theorem blk_in (t : Fin cfg0.N) (y : S18432x9216.Idx) : (iblk m c 0 t : S18432x9216.Idx → EReal) y = (V m c main_v34 : S18432x9216.Idx → EReal) y := by
  unfold iblk
  show (V m c main_v34 : S18432x9216.Idx → EReal) _ = _
  refine congrArg (V m c main_v34 : S18432x9216.Idx → EReal) ?_
  blk_ext [ix0_0 t]

/-- The codes array. -/
theorem arr_codes : ((dats m 0 c).arrAt 1 cfg0.N : S18432x9216.Idx → EReal) = V m c main_v34 := by
  refine (dats m 0 c).arrAt_eq_of_covers 1 _ (by decide +kernel) fun t hf y => ?_
  blk_simp
  rw [after0_1]
  have e : (win0_1.blk t).view.emb y = (y : S18432x9216.Idx) := by
    blk_ext [ix0_1 t]
  rw [e]
  exact (round_codes _ y).trans (blk_in m c t y)

/-- The values array. -/
theorem arr_values : ((dats m 0 c).arrAt 2 cfg0.N : S18432x9216.Idx → EReal) = V m c main_v34 := by
  refine (dats m 0 c).arrAt_eq_of_covers 2 _ (by decide +kernel) fun t hf y => ?_
  blk_simp
  rw [after0_2]
  have e : (win0_2.blk t).view.emb y = (y : S18432x9216.Idx) := by
    blk_ext [ix0_2 t]
  rw [e]
  exact (round_values _ y).trans (blk_in m c t y)

variable {m c}

/-- The codes. -/
theorem code_at (h : Small m c) (T : Fin 18432) (n : Fin 9216) :
    (exitV m c (Proc.devRef .tc main_v35_0) : S18432x9216.Idx → EReal) (ix2 T n) = codeOf (argDy m c (seqOf T) (posOf T)) n :=
  (congrFun ((exit_main_v35_0 m c).trans (arr_codes m c)) (ix2 T n)).trans (clipped_at h T n)

/-- The codes' values. -/
theorem value_at (h : Small m c) (T : Fin 18432) (n : Fin 9216) :
    (exitV m c (Proc.devRef .tc main_v35_1) : S18432x9216.Idx → EReal) (ix2 T n) = codeOf (argDy m c (seqOf T) (posOf T)) n :=
  (congrFun ((exit_main_v35_1 m c).trans (arr_values m c)) (ix2 T n)).trans (clipped_at h T n)

end Cert.ReferenceIdeal.Val
-- ==== Proof.RefOps.lean ====
module

public import proofs.«01_k».proof.Proof.RefRegion

/-!
The reference's host operations after its rounding call, each read at an index.
-/

@[expose] public section

set_option maxRecDepth 65536
open Idealize.ShloMosaic Idealize.ShloMosaic.TcCoe Idealize.SL.Sem
open Idealize.ShloMosaic.Pipeline (Dat)
namespace Cert.ReferenceIdeal.Val
open Cert.ReferenceIdeal Cert.ReferenceIdeal.Gen Cert.Quant Cert.ReferenceIdeal.Value

/-- One of the two interleaved halves of the weight, from its nibbles. -/
noncomputable def refW (q : IVec S1152x9216 32) (s : FVec Ideal S1152x9216 .bf16) : FVec Ideal S1152x9216 .bf16 :=
  mulf (sitofp .bf16 (select (cmpi .sge q (broadcastInDim S1152x9216 ![] bcast_S_S1152x9216 (constantI S_ 32 8#32))) (subi q (broadcastInDim S1152x9216 ![] bcast_S_S1152x9216 (constantI S_ 32 16#32))) q)) s

/-- A nibble's signed value, from its unsigned one. -/
def signed (q : BitVec 32) : BitVec 32 := Scalar.select (IntOp.cmpi CmpIPredicate.sge q 8#32) (IntOp.subi q 16#32) q

/-- A half of the weight: the nibble's number times its group's scale. -/
theorem refW_at (q : IVec S1152x9216 32) (s : FVec Ideal S1152x9216 .bf16) (j : Fin 1152) (n : Fin 9216) :
    (refW q s (ix2 j n) : EReal) = (FloatOps.sitofp (F := Ideal) .f32 (signed (q (ix2 j n))) : EReal) * s (ix2 j n) := by
  unfold refW
  pointwise
  rfl

/-- One half of the base part of `dx`. -/
noncomputable def refHalf (Y : FVec Ideal S18432x9216 .bf16) (w : FVec Ideal S1152x9216 .bf16) (sc : FVec Ideal S18432 .f32) : FVec Ideal S18432x1152x1 .f32 :=
  broadcastInDim S18432x1152x1 ![0, 1] bcast_S18432x1152_S18432x1152x1_0_1 (mulf (Host.dotGeneral dot_S18432x9216_S1152x9216_S18432x1152_1_1_0_0_n_n none Y w) (broadcastInDim S18432x1152 ![0, 1] bcast_S18432x1_S18432x1152_0_1 (broadcastInDim S18432x1 ![0] bcast_S18432_S18432x1_0 sc)))

/-- A half of the input's gradient: codes times weights, times the token's scale. -/
theorem refHalf_at (Y : FVec Ideal S18432x9216 .bf16) (w : FVec Ideal S1152x9216 .bf16) (sc : FVec Ideal S18432 .f32) (T : Fin 18432) (j : Fin 1152) :
    (refHalf Y w sc (ix3 T j 0) : EReal) = (∑ n, (Y (ix2 T n) : EReal) * w (ix2 j n)) * sc (ix1 T) := by
  unfold refHalf
  pointwise

/-- `dx` from its even and odd halves. -/
noncomputable def refDx (E O : FVec Ideal S18432x1152x1 .f32) (G : FVec Ideal S18432x8 .bf16) (A : FVec Ideal S2304x8 .bf16) : FVec Ideal S24x768x2304 .bf16 :=
  shapeCast _ (truncf .bf16 (addf (shapeCast _ (concatenate S18432x1152x2 2 [⟨S18432x1152x1, E⟩, ⟨S18432x1152x1, O⟩] concatenates_S18432x1152x1_S18432x1152x1_S18432x1152x2_d2) shapeCasts_S18432x1152x2_S18432x2304) (mulf (broadcastInDim S18432x2304 ![] bcast_S_S18432x2304 (constant S_ .f32 0x40000000#32)) (Host.dotGeneral dot_S18432x8_S2304x8_S18432x2304_1_1_0_0_n_n none G A))) bitsLt_bf16_f32) shapeCasts_S18432x2304_S24x768x2304

/-- The two halves in alternation, plus twice the adapters' part. -/
theorem refDx_at (E O : FVec Ideal S18432x1152x1 .f32) (G : FVec Ideal S18432x8 .bf16) (A : FVec Ideal S2304x8 .bf16) (i : Fin 24) (t : Fin 768) (d : Fin 2304) :
    (refDx E O G A (ix3 i t d) : EReal) = (if d.val % 2 = 0 then (E (ix3 (tokOf i t) ⟨d.val / 2, by omega⟩ 0) : EReal) else O (ix3 (tokOf i t) ⟨d.val / 2, by omega⟩ 0))
      + (FloatOps.ofBits (F := Ideal) .f32 0x40000000#32 : EReal) * ∑ r, (G (ix2 (tokOf i t) r) : EReal) * A (ix2 d r) := by
  unfold refDx
  pointwise
  refine congrArg₂ (fun u v : EReal => u + v) ?_ rfl
  by_cases h : d.val % 2 = 0
  · rw [dif_pos (by omega), if_pos h]
    refine congrArg (E : S18432x1152x1.Idx → EReal) ?_
    blk_ext [tokOf]
  · rw [dif_neg (by omega), if_neg h]
    refine congrArg (O : S18432x1152x1.Idx → EReal) ?_
    blk_ext [tokOf]

/-- `d_lora_a`. -/
noncomputable def refDa (X : FVec Ideal S18432x2304 .bf16) (G : FVec Ideal S18432x8 .bf16) : FVec Ideal S2304x8 .f32 :=
  mulf (broadcastInDim S2304x8 ![] bcast_S_S2304x8 (constant S_ .f32 0x40000000#32)) (Host.dotGeneral dot_S18432x2304_S18432x8_S2304x8_0_0_1_1_n_n none X G)

/-- The first adapter's gradient as a sum over the tokens. -/
theorem refDa_at (X : FVec Ideal S18432x2304 .bf16) (G : FVec Ideal S18432x8 .bf16) (d : Fin 2304) (r : Fin 8) :
    (refDa X G (ix2 d r) : EReal) = (FloatOps.ofBits (F := Ideal) .f32 0x40000000#32 : EReal) * ∑ T, (X (ix2 T d) : EReal) * G (ix2 T r) := by
  unfold refDa
  pointwise

/-- `d_lora_b`. -/
noncomputable def refDb (X : FVec Ideal S18432x8 .bf16) (D : FVec Ideal S18432x9216 .bf16) : FVec Ideal S8x9216 .f32 :=
  mulf (broadcastInDim S8x9216 ![] bcast_S_S8x9216 (constant S_ .f32 0x40000000#32)) (Host.dotGeneral dot_S18432x8_S18432x9216_S8x9216_0_0_1_1_n_n none X D)

/-- The second adapter's gradient as a sum over the tokens. -/
theorem refDb_at (X : FVec Ideal S18432x8 .bf16) (D : FVec Ideal S18432x9216 .bf16) (r : Fin 8) (n : Fin 9216) :
    (refDb X D (ix2 r n) : EReal) = (FloatOps.ofBits (F := Ideal) .f32 0x40000000#32 : EReal) * ∑ T, (X (ix2 T r) : EReal) * D (ix2 T n) := by
  unfold refDb
  pointwise

/-- The low nibbles. -/
theorem low_at (P : IVec S1152x9216 8) (j : Fin 1152) (n : Fin 9216) :
    signed (andi (extui 32 P natLt_8_32) (broadcastInDim S1152x9216 ![] bcast_S_S1152x9216 (constantI S_ 32 15#32)) (ix2 j n)) = lowNibble (P (ix2 j n)) := by
  have e : andi (extui 32 P natLt_8_32) (broadcastInDim S1152x9216 ![] bcast_S_S1152x9216 (constantI S_ 32 15#32)) (ix2 j n)
      = IntOp.andi (BitVec.setWidth 32 (P (ix2 j n))) 15#32 := by pointwise
  rw [e]
  exact (by decide +kernel : ∀ q : BitVec 8, signed (IntOp.andi (BitVec.setWidth 32 q) 15#32) = lowNibble q) _

/-- The high nibbles. -/
theorem high_at (P : IVec S1152x9216 8) (j : Fin 1152) (n : Fin 9216) :
    signed (Host.shrsi (extui 32 P natLt_8_32) (broadcastInDim S1152x9216 ![] bcast_S_S1152x9216 (constantI S_ 32 4#32)) (ix2 j n)) = highNibble (P (ix2 j n)) := by
  have e : Host.shrsi (extui 32 P natLt_8_32) (broadcastInDim S1152x9216 ![] bcast_S_S1152x9216 (constantI S_ 32 4#32)) (ix2 j n)
      = IntOp.shrsi ArithUnit.host (BitVec.setWidth 32 (P (ix2 j n))) 4#32 := by pointwise
  rw [e]
  exact (by decide +kernel : ∀ q : BitVec 8, signed (IntOp.shrsi ArithUnit.host (BitVec.setWidth 32 q) 4#32) = highNibble q) _

/-- The group scales, each repeated over its rows. -/
theorem scales_at (S : FVec Ideal S18x9216 .bf16) (j : Fin 1152) (n : Fin 9216) :
    (shapeCast S1152x9216 (broadcastInDim S18x64x9216 ![0, 2] bcast_S18x9216_S18x64x9216_0_2 S) shapeCasts_S18x64x9216_S1152x9216 (ix2 j n) : EReal)
      = S (ix2 ⟨j.val / 64, by omega⟩ n) := by
  pointwise

/-- Splitting the tokens again, at width 8. -/
theorem split8_at (X : FVec Ideal S18432x8 .bf16) (i : Fin 24) (t : Fin 768) (r : Fin 8) :
    (shapeCast S24x768x8 X shapeCasts_S18432x8_S24x768x8 (ix3 i t r) : EReal) = X (ix2 (tokOf i t) r) := by
  pointwise
  rfl

/-- Splitting the tokens again, the codes. -/
theorem splitCodes_at (X : FVec Ideal S18432x9216 .fp8e5m2) (i : Fin 24) (t : Fin 768) (n : Fin 9216) :
    (shapeCast S24x768x9216 X shapeCasts_S18432x9216_S24x768x9216 (ix3 i t n) : EReal) = X (ix2 (tokOf i t) n) := by
  pointwise
  rfl

/-- Splitting the tokens again, the scales. -/
theorem splitScales_at (X : FVec Ideal S18432 .f32) (i : Fin 24) (t : Fin 768) :
    (shapeCast S24x768 X shapeCasts_S18432_S24x768 (ix2 i t) : EReal) = X (ix1 (tokOf i t)) := by
  pointwise
  rfl

/-- Joining the sequences of the input, read at an index. -/
theorem joinX_at (X : FVec Ideal S24x768x2304 .bf16) (T : Fin 18432) (d : Fin 2304) :
    (shapeCast S18432x2304 X shapeCasts_S24x768x2304_S18432x2304 (ix2 T d) : EReal) = X (ix3 (seqOf T) (posOf T) d) := by
  pointwise
  rfl

/-- `g` from the joined gradient. -/
noncomputable def refG (D : FVec Ideal S18432x9216 .bf16) (B : FVec Ideal S8x9216 .bf16) : FVec Ideal S18432x8 .bf16 :=
  truncf .bf16 (Host.dotGeneral dot_S18432x9216_S8x9216_S18432x8_1_1_0_0_n_n none D B) bitsLt_bf16_f32

/-- The gradient through the second adapter as a sum. -/
theorem refG_at (D : FVec Ideal S18432x9216 .bf16) (B : FVec Ideal S8x9216 .bf16) (T : Fin 18432) (r : Fin 8) :
    (refG D B (ix2 T r) : EReal) = ∑ n, (D (ix2 T n) : EReal) * B (ix2 r n) := by
  unfold refG
  pointwise

/-- `xa` from the joined input. -/
noncomputable def refXa (X : FVec Ideal S18432x2304 .bf16) (A : FVec Ideal S2304x8 .bf16) : FVec Ideal S18432x8 .bf16 :=
  truncf .bf16 (Host.dotGeneral dot_S18432x2304_S2304x8_S18432x8_1_0_0_1_n_n none X A) bitsLt_bf16_f32

/-- The input through the first adapter as a sum. -/
theorem refXa_at (X : FVec Ideal S18432x2304 .bf16) (A : FVec Ideal S2304x8 .bf16) (T : Fin 18432) (r : Fin 8) :
    (refXa X A (ix2 T r) : EReal) = ∑ d, (X (ix2 T d) : EReal) * A (ix2 d r) := by
  unfold refXa
  pointwise

end Cert.ReferenceIdeal.Val
-- ==== Proof.RefOut.lean ====
module

public import proofs.«01_k».proof.Proof.RefOps

/-!
The seven results the reference's run ends with, by coordinates, are the results of the specification.
-/

@[expose] public section

set_option maxRecDepth 65536
open Idealize.ShloMosaic Idealize.ShloMosaic.TcCoe Idealize.SL.Sem
open Idealize.ShloMosaic.Pipeline (Dat)
namespace Cert.ReferenceIdeal.Val
open Cert.ReferenceIdeal Cert.ReferenceIdeal.Gen Cert.Quant Cert.ReferenceIdeal.Value

variable (m : (ℓ : Loc nD τ sig) → Buf (Elt Ideal) ℓ) (c : Dev nD)

/-- The reference's joined gradient, after its rounding call. -/
theorem dy_at (T : Fin 18432) (n : Fin 9216) : (exitV m c (Proc.devRef .tc main_v0) : S18432x9216.Idx → EReal) (ix2 T n) = argDy m c (seqOf T) (posOf T) n :=
  (congrFun (exit_main_v0 m c) (ix2 T n)).trans (refDy_eq m c T n)

/-- `g` at a token. -/
theorem g_at (T : Fin 18432) (r : Fin 8) : (res_main_v71 (exitV m c) : S18432x8.Idx → EReal) (ix2 T r) = resG (argDy m c) (argB m c) (seqOf T) (posOf T) r := by
  refine (refG_at (exitV m c (Proc.devRef .tc main_v0)) (exitV m c (Proc.devRef .tc main_arg5)) T r).trans ?_
  unfold resG argB
  exact Finset.sum_congr rfl fun n _ => congrArg₂ (fun u v : EReal => u * v) (dy_at m c T n) (congrFun (exit_main_arg5 m c) _)

/-- The joined input. -/
theorem x_at (T : Fin 18432) (d : Fin 2304) : (res_main_v36 (exitV m c) : S18432x2304.Idx → EReal) (ix2 T d) = argX m c (seqOf T) (posOf T) d :=
  (joinX_at (exitV m c (Proc.devRef .tc main_arg0)) T d).trans (congrFun (exit_main_arg0 m c) _)

/-- `xa` at a token. -/
theorem xa_at (T : Fin 18432) (r : Fin 8) : (res_main_v73 (exitV m c) : S18432x8.Idx → EReal) (ix2 T r) = resXa (argX m c) (argA m c) (seqOf T) (posOf T) r := by
  refine (refXa_at (res_main_v36 (exitV m c)) (exitV m c (Proc.devRef .tc main_arg4)) T r).trans ?_
  unfold resXa argA
  exact Finset.sum_congr rfl fun n _ => congrArg₂ (fun u v : EReal => u * v) (x_at m c T n) (congrFun (exit_main_arg4 m c) _)

/-- The even columns of the weight. -/
theorem even_at (d : Fin 2304) (h : d.val % 2 = 0) (n : Fin 9216) :
    (refW (res_main_v41 (exitV m c)) (res_main_v38 (exitV m c)) (ix2 ⟨d.val / 2, by omega⟩ n) : EReal) = weight (argP m c) (argS m c) n d := by
  refine (refW_at _ _ _ n).trans ?_
  unfold weight argP argS
  rw [if_pos h]
  refine congrArg₂ (fun (u : BitVec 32) (v : EReal) => (FloatOps.sitofp (F := Ideal) .f32 u : EReal) * v) ?_ ?_
  · exact (low_at (exitV m c (Proc.devRef .tc main_arg2)) _ n).trans (congrArg lowNibble (congrFun (exit_main_arg2 m c) _))
  · refine (scales_at (exitV m c (Proc.devRef .tc main_arg3)) _ n).trans ((congrFun (exit_main_arg3 m c) _).trans ?_)
    refine congrArg (fun k : Fin 18 => (m ((c : Thread nD τ).loc main_arg3) : S18x9216.Idx → EReal) (ix2 k n)) (Fin.ext ?_)
    simp only
    omega

/-- The odd columns of the weight. -/
theorem odd_at (d : Fin 2304) (h : ¬ d.val % 2 = 0) (n : Fin 9216) :
    (refW (res_main_v50 (exitV m c)) (res_main_v38 (exitV m c)) (ix2 ⟨d.val / 2, by omega⟩ n) : EReal) = weight (argP m c) (argS m c) n d := by
  refine (refW_at _ _ _ n).trans ?_
  unfold weight argP argS
  rw [if_neg h]
  refine congrArg₂ (fun (u : BitVec 32) (v : EReal) => (FloatOps.sitofp (F := Ideal) .f32 u : EReal) * v) ?_ ?_
  · exact (high_at (exitV m c (Proc.devRef .tc main_arg2)) _ n).trans (congrArg highNibble (congrFun (exit_main_arg2 m c) _))
  · refine (scales_at (exitV m c (Proc.devRef .tc main_arg3)) _ n).trans ((congrFun (exit_main_arg3 m c) _).trans ?_)
    refine congrArg (fun k : Fin 18 => (m ((c : Thread nD τ).loc main_arg3) : S18x9216.Idx → EReal) (ix2 k n)) (Fin.ext ?_)
    simp only
    omega

/-- A half of the base part of `dx`, where its weight is the specification's. -/
theorem half_at (h : Small m c) (w : FVec Ideal S1152x9216 .bf16) (T : Fin 18432) (j : Fin 1152) (d : Fin 2304)
    (hw : ∀ n, (w (ix2 j n) : EReal) = weight (argP m c) (argS m c) n d) :
    (refHalf (exitV m c (Proc.devRef .tc main_v35_1)) w (exitV m c (Proc.devRef .tc main_v27)) (ix3 T j 0) : EReal)
      = (∑ n, codeOf (argDy m c (seqOf T) (posOf T)) n * weight (argP m c) (argS m c) n d) * scaleOf (argDy m c (seqOf T) (posOf T)) := by
  refine (refHalf_at _ _ _ T j).trans ?_
  exact congrArg₂ (fun u v : EReal => u * v) (Finset.sum_congr rfl fun n _ => congrArg₂ (fun u v : EReal => u * v) (value_at h T n) (hw n)) (scale_at h T)

/-- `dx`. -/
theorem dx_at (h : Small m c) (i : Fin 24) (t : Fin 768) (d : Fin 2304) :
    (refDx (refHalf (exitV m c (Proc.devRef .tc main_v35_1)) (refW (res_main_v41 (exitV m c)) (res_main_v38 (exitV m c))) (exitV m c (Proc.devRef .tc main_v27)))
      (refHalf (exitV m c (Proc.devRef .tc main_v35_1)) (refW (res_main_v50 (exitV m c)) (res_main_v38 (exitV m c))) (exitV m c (Proc.devRef .tc main_v27)))
      (res_main_v71 (exitV m c)) (exitV m c (Proc.devRef .tc main_arg4)) (ix3 i t d) : EReal)
      = resDx (argDy m c) (argP m c) (argS m c) (argA m c) (argB m c) i t d := by
  refine (refDx_at _ _ _ _ i t d).trans ?_
  unfold resDx
  refine congrArg₂ (fun u v : EReal => u + (FloatOps.ofBits (F := Ideal) .f32 0x40000000#32 : EReal) * v) ?_ ?_
  · by_cases hd : d.val % 2 = 0
    · rw [if_pos hd]
      refine (half_at m c h _ (tokOf i t) _ d (even_at m c d hd)).trans ?_
      rw [seqOf_tokOf, posOf_tokOf]
    · rw [if_neg hd]
      refine (half_at m c h _ (tokOf i t) _ d (odd_at m c d hd)).trans ?_
      rw [seqOf_tokOf, posOf_tokOf]
  · refine Finset.sum_congr rfl fun r _ => ?_
    refine congrArg₂ (fun u v : EReal => u * v) ((g_at m c (tokOf i t) r).trans ?_) (congrFun (exit_main_arg4 m c) _)
    rw [seqOf_tokOf, posOf_tokOf]

/-- `d_lora_a`. -/
theorem da_at (d : Fin 2304) (r : Fin 8) :
    (refDa (res_main_v36 (exitV m c)) (res_main_v71 (exitV m c)) (ix2 d r) : EReal) = resDa (argX m c) (argDy m c) (argB m c) d r := by
  refine (refDa_at _ _ d r).trans ?_
  unfold resDa
  exact congrArg (fun u : EReal => (FloatOps.ofBits (F := Ideal) .f32 0x40000000#32 : EReal) * u)
    (Finset.sum_congr rfl fun T _ => congrArg₂ (fun u v : EReal => u * v) (x_at m c T d) (g_at m c T r))

/-- `d_lora_b`. -/
theorem db_at (r : Fin 8) (n : Fin 9216) :
    (refDb (res_main_v73 (exitV m c)) (exitV m c (Proc.devRef .tc main_v0)) (ix2 r n) : EReal) = resDb (argX m c) (argDy m c) (argA m c) r n := by
  refine (refDb_at _ _ r n).trans ?_
  unfold resDb
  exact congrArg (fun u : EReal => (FloatOps.ofBits (F := Ideal) .f32 0x40000000#32 : EReal) * u)
    (Finset.sum_congr rfl fun T _ => congrArg₂ (fun u v : EReal => u * v) (xa_at m c T r) (dy_at m c T n))

end Cert.ReferenceIdeal.Val
-- ==== Proof.Equal.lean ====
module

public import proofs.«01_k».proof.Defs
public import proofs.«01_k».proof.Proof.Gen.Pre_dy_finite
public import proofs.«01_k».proof.Proof.Run
public import proofs.«01_k».proof.Proof.Out
public import proofs.«01_k».proof.Proof.RefOut

/-!
The value claim: from equal arguments, where the gradient's elements are finite, both programs end with the same seven
results.
-/

@[expose] public section

set_option maxRecDepth 65536
open Idealize.ShloMosaic Idealize.ShloMosaic.TcCoe Idealize.SL.Sem
namespace Cert.Equal
open Cert.Quant

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories agree on the arguments. -/
abbrev Agree : Prop := ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

/-- Where the precondition's comparison says one, the element's magnitude is at most the largest bf16 number. -/
theorem le_of_one (x y : EReal) (h : BitVec.ofBool (decide (max x (-x) ≤ y)) = 1#1) : max x (-x) ≤ y := by
  by_contra hn
  rw [decide_eq_false hn] at h
  exact absurd h (by decide)

/-- Finite gradients have rows whose scale's exponent is found. -/
theorem small_of_pre (h : Cert.Pre_KernelIdeal_dy_finite m) (c : Dev Cert.KernelIdeal.nD) :
    Cert.KernelIdeal.Val.Small m c := fun i t => by
  refine ratio_lt _ fun n => le_of_one _ _ ?_
  have h1 := congrFun (h c) (ix3 i t n)
  revert h1
  unfold Cert.Pre_dy_finite.fn
  dsimp only
  pointwise
  exact id

variable {m m'}

/-- Both programs read the same input. -/
theorem argX_eq (h : Agree m m') (c) : Cert.ReferenceIdeal.Val.argX m' c = Cert.KernelIdeal.Val.argX m c :=
  funext fun i => funext fun t => funext fun d => congrFun (h c).1 (ix3 i t d)
/-- Both programs read the same gradient. -/
theorem argDy_eq (h : Agree m m') (c) : Cert.ReferenceIdeal.Val.argDy m' c = Cert.KernelIdeal.Val.argDy m c :=
  funext fun i => funext fun t => funext fun d => congrFun (h c).2.1 (ix3 i t d)
/-- Both programs read the same packed codes. -/
theorem argP_eq (h : Agree m m') (c) : Cert.ReferenceIdeal.Val.argP m' c = Cert.KernelIdeal.Val.argP m c :=
  funext fun i => funext fun t => congrFun (h c).2.2.1 (ix2 i t)
/-- Both programs read the same block scales. -/
theorem argS_eq (h : Agree m m') (c) : Cert.ReferenceIdeal.Val.argS m' c = Cert.KernelIdeal.Val.argS m c :=
  funext fun i => funext fun t => congrFun (h c).2.2.2.1 (ix2 i t)
/-- Both programs read the same first adapter. -/
theorem argA_eq (h : Agree m m') (c) : Cert.ReferenceIdeal.Val.argA m' c = Cert.KernelIdeal.Val.argA m c :=
  funext fun i => funext fun t => congrFun (h c).2.2.2.2.1 (ix2 i t)
/-- Both programs read the same second adapter. -/
theorem argB_eq (h : Agree m m') (c) : Cert.ReferenceIdeal.Val.argB m' c = Cert.KernelIdeal.Val.argB m c :=
  funext fun i => funext fun t => congrFun (h c).2.2.2.2.2 (ix2 i t)

end

/-- The value claim. -/
theorem algebraic : Cert.algebraic_KernelIdeal_ReferenceIdeal_pre_dy_finite := by
  intro m g m' g' hp hag
  have hs : ∀ c, Cert.KernelIdeal.Val.Small m c := small_of_pre m hp
  have hs' : ∀ c, Cert.ReferenceIdeal.Val.Small m' c := fun c => by
    unfold Cert.ReferenceIdeal.Val.Small
    rw [argDy_eq hag c]
    exact hs c
  refine ⟨fun c => Cert.KernelIdeal.Gen.W9 m g c (Proc.devRef .tc Cert.KernelIdeal.main_v8),
    fun c => Cert.KernelIdeal.Gen.W9 m g c (Proc.devRef .tc Cert.KernelIdeal.main_v10),
    fun c => Cert.KernelIdeal.Gen.W9 m g c (Proc.devRef .tc Cert.KernelIdeal.main_v11),
    fun c => Cert.KernelIdeal.Gen.W9 m g c (Proc.devRef .tc Cert.KernelIdeal.main_v12),
    fun c => Cert.KernelIdeal.Gen.W9 m g c (Proc.devRef .tc Cert.KernelIdeal.main_v13),
    fun c => Cert.KernelIdeal.Gen.W9 m g c (Proc.devRef .tc Cert.KernelIdeal.main_v14),
    fun c => Cert.KernelIdeal.Gen.W9 m g c (Proc.devRef .tc Cert.KernelIdeal.main_v15),
    Cert.KernelIdeal.Val.run_values m g, ?_⟩
  refine θ_run_mono (Cert.ReferenceIdeal.Value.run m' g') fun r h c => ?_
  obtain ⟨h0, h1, h2, h3, h4, h5, h6, ha⟩ := h c
  refine ⟨h0.trans ?_, h1.trans ?_, h2.trans ?_, h3.trans ?_, h4.trans ?_, h5.trans ?_, h6.trans ?_, ha⟩
  · funext y
    obtain ⟨i, t, d, rfl⟩ : ∃ (i : Fin 24) (t : Fin 768) (d : Fin 2304), y = ix3 i t d := ⟨_, _, _, eq_ix3 y⟩
    refine (Cert.ReferenceIdeal.Val.dx_at m' c (hs' c) i t d).trans (Eq.trans ?_ (Cert.KernelIdeal.Val.out_v8 g (hs c) i t d).symm)
    rw [argDy_eq hag c, argP_eq hag c, argS_eq hag c, argA_eq hag c, argB_eq hag c]
  · funext y
    obtain ⟨d, r, rfl⟩ : ∃ (d : Fin 2304) (r : Fin 8), y = ix2 d r := ⟨_, _, eq_ix2 y⟩
    refine (Cert.ReferenceIdeal.Val.da_at m' c d r).trans (Eq.trans ?_ (Cert.KernelIdeal.Val.out_v10 m g c d r).symm)
    rw [argX_eq hag c, argDy_eq hag c, argB_eq hag c]
  · funext y
    obtain ⟨r, n, rfl⟩ : ∃ (r : Fin 8) (n : Fin 9216), y = ix2 r n := ⟨_, _, eq_ix2 y⟩
    refine (Cert.ReferenceIdeal.Val.db_at m' c r n).trans (Eq.trans ?_ (Cert.KernelIdeal.Val.out_v11 m g c r n).symm)
    rw [argX_eq hag c, argDy_eq hag c, argA_eq hag c]
  · funext y
    obtain ⟨i, t, r, rfl⟩ : ∃ (i : Fin 24) (t : Fin 768) (r : Fin 8), y = ix3 i t r := ⟨_, _, _, eq_ix3 y⟩
    refine (Cert.ReferenceIdeal.Val.split8_at _ i t r).trans ((Cert.ReferenceIdeal.Val.g_at m' c (tokOf i t) r).trans (Eq.trans ?_ (Cert.KernelIdeal.Val.out_v12 m g c i t r).symm))
    rw [argDy_eq hag c, argB_eq hag c, seqOf_tokOf, posOf_tokOf]
  · funext y
    obtain ⟨i, t, r, rfl⟩ : ∃ (i : Fin 24) (t : Fin 768) (r : Fin 8), y = ix3 i t r := ⟨_, _, _, eq_ix3 y⟩
    refine (Cert.ReferenceIdeal.Val.split8_at _ i t r).trans ((Cert.ReferenceIdeal.Val.xa_at m' c (tokOf i t) r).trans (Eq.trans ?_ (Cert.KernelIdeal.Val.out_v13 m g c i t r).symm))
    rw [argX_eq hag c, argA_eq hag c, seqOf_tokOf, posOf_tokOf]
  · funext y
    obtain ⟨i, t, n, rfl⟩ : ∃ (i : Fin 24) (t : Fin 768) (n : Fin 9216), y = ix3 i t n := ⟨_, _, _, eq_ix3 y⟩
    refine (Cert.ReferenceIdeal.Val.splitCodes_at _ i t n).trans ((Cert.ReferenceIdeal.Val.code_at (hs' c) (tokOf i t) n).trans (Eq.trans ?_ (Cert.KernelIdeal.Val.out_v14 g (hs c) i t n).symm))
    rw [argDy_eq hag c, seqOf_tokOf, posOf_tokOf]
  · funext y
    obtain ⟨i, t, rfl⟩ : ∃ (i : Fin 24) (t : Fin 768), y = ix2 i t := ⟨_, _, eq_ix2 y⟩
    refine (Cert.ReferenceIdeal.Val.splitScales_at _ i t).trans ((Cert.ReferenceIdeal.Val.scale_at (hs' c) (tokOf i t)).trans (Eq.trans ?_ (Cert.KernelIdeal.Val.out_v15 g (hs c) i t).symm))
    rw [argDy_eq hag c, seqOf_tokOf, posOf_tokOf]

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_dy_finite
public import Idealize.ShloMosaic.Adequacy
public import Idealize.ShloMosaic.Init
public import Idealize.ShloMosaic.Lib.Bf16Pair
public import proofs.«01_k».proof.Proof.Equal

@[expose] public section

noncomputable section

namespace Cert.Proof

open Idealize.ShloMosaic Idealize.SL.Sem Cert.Kernel

/-- The five claims: the frames of the three programs, the rewriting of the kernel, and the equality of the results. -/
theorem claim : Cert.Claim := ⟨Cert.Kernel.Gen.facts, Cert.KernelIdeal.Gen.facts, Cert.ReferenceIdeal.Gen.facts,
  Cert.Pre_dy_finite.Gen.facts,
  fun m ρ _ => Cert.Kernel.Gen.frame m ρ,
  fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  ⟨IdealRules.bf16_pair.statement Cert.KernelIdeal.S128x1024 Cert.KernelIdeal.S64x1024,
    IdealRules.bf16_pack.statement Cert.KernelIdeal.S64x1024⟩,
  Cert.Equal.algebraic⟩

end Cert.Proof

end
